-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "softmax_log2" .f32 0x3E0293EE#32 (((Real.sqrt 128)⁻¹ * (Real.log 2)⁻¹ : ℝ) : EReal)

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v0_0) i = v0 c i)
          ∧ (∀ i : (⟨3, ![8, 2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v0_1) i = v1 c i)
          ∧ (∀ i : (⟨3, ![8, 2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v0_2) i = v2 c i)
          ∧ (∀ i : (⟨3, ![8, 2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.KernelIdeal.nD Cert.KernelIdeal.τ).loc Cert.KernelIdeal.main_v0_3) i = v3 c i)
          ∧ (∀ i : (⟨4, ![8, 8, 8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 i = 1#1 → r.2.mem ((c.tc : Thread Cert.KernelIdeal.nD Cert.KernelIdeal.τ).loc Cert.KernelIdeal.main_v0_4) i = v4 c i)
          ∧ (∀ i : (⟨4, ![8, 8, 16, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.1 i = 1#1 → r.2.mem ((c.tc : Thread Cert.KernelIdeal.nD Cert.KernelIdeal.τ).loc Cert.KernelIdeal.main_v0_5) i = v5 c i)
          ∧ (∀ i : (⟨4, ![8, 8, 16, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2 i = 1#1 → r.2.mem ((c.tc : Thread Cert.KernelIdeal.nD Cert.KernelIdeal.τ).loc Cert.KernelIdeal.main_v0_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v132) i = v0 c i)
          ∧ (∀ i : (⟨3, ![8, 2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v143) i = v1 c i)
          ∧ (∀ i : (⟨3, ![8, 2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v145) i = v2 c i)
          ∧ (∀ i : (⟨3, ![8, 2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.ReferenceIdeal.nD Cert.ReferenceIdeal.τ).loc Cert.ReferenceIdeal.main_v147) i = v3 c i)
          ∧ (∀ i : (⟨4, ![8, 8, 8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 i = 1#1 → r.2.mem ((c.tc : Thread Cert.ReferenceIdeal.nD Cert.ReferenceIdeal.τ).loc Cert.ReferenceIdeal.main_v135) i = v4 c i)
          ∧ (∀ i : (⟨4, ![8, 8, 16, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.1 i = 1#1 → r.2.mem ((c.tc : Thread Cert.ReferenceIdeal.nD Cert.ReferenceIdeal.τ).loc Cert.ReferenceIdeal.main_v138) i = v5 c i)
          ∧ (∀ i : (⟨4, ![8, 8, 16, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2 i = 1#1 → r.2.mem ((c.tc : Thread Cert.ReferenceIdeal.nD Cert.ReferenceIdeal.τ).loc Cert.ReferenceIdeal.main_v141) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
-- ==== On_written.lean ====
abbrev S8x2048x4096 : Shape := ⟨3, ![8, 2048, 4096]⟩
abbrev S8x2048x1024 : Shape := ⟨3, ![8, 2048, 1024]⟩
abbrev S8x8x8x128 : Shape := ⟨4, ![8, 8, 8, 128]⟩
abbrev S_ : Shape := ⟨0, ![]⟩
abbrev S8x8x16x128 : Shape := ⟨4, ![8, 8, 16, 128]⟩

class Facts : Prop where
  bcast_S_S8x8x8x128 : S_.BroadcastsInDim S8x8x8x128 (![] : Fin 0 → Fin S8x8x8x128.rank)
  bcast_S_S8x8x16x128 : S_.BroadcastsInDim S8x8x16x128 (![] : Fin 0 → Fin S8x8x16x128.rank)
  bcast_S_S8x2048x4096 : S_.BroadcastsInDim S8x2048x4096 (![] : Fin 0 → Fin S8x2048x4096.rank)
  bcast_S_S8x2048x1024 : S_.BroadcastsInDim S8x2048x1024 (![] : Fin 0 → Fin S8x2048x1024.rank)

variable [Facts]

def fn {F : FTy → Type} [FloatOps F] (main_arg0 : FVec F S8x2048x4096 .bf16) (main_arg1 : FVec F S8x2048x1024 .bf16) (main_arg2 : FVec F S8x2048x1024 .bf16) : IVec S8x2048x4096 1 × IVec S8x2048x4096 1 × IVec S8x2048x1024 1 × IVec S8x2048x1024 1 × IVec S8x8x8x128 1 × IVec S8x8x16x128 1 × IVec S8x8x16x128 1 :=
  let main_v0 : IVec S8x8x8x128 32 := iotaInDim S8x8x8x128 32 2
  let main_c : IVec S_ 32 := constantI S_ 32 4#32
  let main_v1 : IVec S8x8x8x128 32 := broadcastInDim S8x8x8x128 ![] bcast_S_S8x8x8x128 main_c
  let main_v2 : IVec S8x8x8x128 1 := cmpi .slt main_v0 main_v1
  let main_c_0 : IVec S_ 1 := constantI S_ 1 1#1
  let main_v3 : IVec S8x8x16x128 1 := broadcastInDim S8x8x16x128 ![] bcast_S_S8x8x16x128 main_c_0
  let main_c_1 : IVec S_ 1 := constantI S_ 1 1#1
  let main_v4 : IVec S8x2048x4096 1 := broadcastInDim S8x2048x4096 ![] bcast_S_S8x2048x4096 main_c_1
  let main_c_2 : IVec S_ 1 := constantI S_ 1 1#1
  let main_v5 : IVec S8x2048x4096 1 := broadcastInDim S8x2048x4096 ![] bcast_S_S8x2048x4096 main_c_2
  let main_c_3 : IVec S_ 1 := constantI S_ 1 1#1
  let main_v6 : IVec S8x2048x1024 1 := broadcastInDim S8x2048x1024 ![] bcast_S_S8x2048x1024 main_c_3
  let main_c_4 : IVec S_ 1 := constantI S_ 1 1#1
  let main_v7 : IVec S8x2048x1024 1 := broadcastInDim S8x2048x1024 ![] bcast_S_S8x2048x1024 main_c_4
  (main_v4, main_v5, main_v6, main_v7, main_v2, main_v3, main_v3)
-- ==== Pre_finite.lean ====
abbrev S8x2048x4096 : Shape := ⟨3, ![8, 2048, 4096]⟩
abbrev S8x2048x1024 : Shape := ⟨3, ![8, 2048, 1024]⟩
abbrev S_ : Shape := ⟨0, ![]⟩

class Facts : Prop where
  bitsLt_bf16_f32 : FTy.bits .bf16 < FTy.bits .f32
  bcast_S_S8x2048x4096 : S_.BroadcastsInDim S8x2048x4096 (![] : Fin 0 → Fin S8x2048x4096.rank)
  bcast_S_S8x2048x1024 : S_.BroadcastsInDim S8x2048x1024 (![] : Fin 0 → Fin S8x2048x1024.rank)

variable [Facts]

def fn {F : FTy → Type} [FloatOps F] (main_arg0 : FVec F S8x2048x4096 .bf16) (main_arg1 : FVec F S8x2048x1024 .bf16) (main_arg2 : FVec F S8x2048x1024 .bf16) : IVec S8x2048x4096 1 × IVec S8x2048x1024 1 × IVec S8x2048x1024 1 :=
  let main_v0 : FVec F S8x2048x4096 .f32 := (extf .f32 · bitsLt_bf16_f32) main_arg0
  let main_v1 : FVec F S8x2048x4096 .f32 := Host.absf main_v0
  let main_cst : FVec F S_ .f32 := constant S_ .f32 0x7F7F0000#32
  let main_v2 : FVec F S8x2048x4096 .f32 := broadcastInDim S8x2048x4096 ![] bcast_S_S8x2048x4096 main_cst
  let main_v3 : IVec S8x2048x4096 1 := cmpf .ole main_v1 main_v2
  let main_v4 : FVec F S8x2048x1024 .f32 := (extf .f32 · bitsLt_bf16_f32) main_arg1
  let main_v5 : FVec F S8x2048x1024 .f32 := Host.absf main_v4
  let main_cst_0 : FVec F S_ .f32 := constant S_ .f32 0x7F7F0000#32
  let main_v6 : FVec F S8x2048x1024 .f32 := broadcastInDim S8x2048x1024 ![] bcast_S_S8x2048x1024 main_cst_0
  let main_v7 : IVec S8x2048x1024 1 := cmpf .ole main_v5 main_v6
  let main_v8 : FVec F S8x2048x1024 .f32 := (extf .f32 · bitsLt_bf16_f32) main_arg2
  let main_v9 : FVec F S8x2048x1024 .f32 := Host.absf main_v8
  let main_cst_1 : FVec F S_ .f32 := constant S_ .f32 0x7F7F0000#32
  let main_v10 : FVec F S8x2048x1024 .f32 := broadcastInDim S8x2048x1024 ![] bcast_S_S8x2048x1024 main_cst_1
  let main_v11 : IVec S8x2048x1024 1 := cmpf .ole main_v9 main_v10
  (main_v3, main_v7, main_v11)
-- ==== Kernel.lean ====
abbrev S8x2048x4096 : Shape := ⟨3, ![8, 2048, 4096]⟩
abbrev S8x2048x1024 : Shape := ⟨3, ![8, 2048, 1024]⟩
abbrev S8x8x8x128 : Shape := ⟨4, ![8, 8, 8, 128]⟩
abbrev S8x8x16x128 : Shape := ⟨4, ![8, 8, 16, 128]⟩
abbrev S1x2048x512 : Shape := ⟨3, ![1, 2048, 512]⟩
abbrev S1x2048x128 : Shape := ⟨3, ![1, 2048, 128]⟩
abbrev S1x1x8x128 : Shape := ⟨4, ![1, 1, 8, 128]⟩
abbrev S1x1x16x128 : Shape := ⟨4, ![1, 1, 16, 128]⟩
abbrev S4x2048x128 : Shape := ⟨3, ![4, 2048, 128]⟩
abbrev S2048x128 : Shape := ⟨2, ![2048, 128]⟩
abbrev S128x2048 : Shape := ⟨2, ![128, 2048]⟩
abbrev S2048x512 : Shape := ⟨2, ![2048, 512]⟩
abbrev S16x128 : Shape := ⟨2, ![16, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x256 : Shape := ⟨2, ![1, 256]⟩
abbrev S1x1x1x128 : Shape := ⟨4, ![1, 1, 1, 128]⟩
abbrev S128x256 : Shape := ⟨2, ![128, 256]⟩
abbrev S1x512 : Shape := ⟨2, ![1, 512]⟩
abbrev S1x256x128 : Shape := ⟨3, ![1, 256, 128]⟩
abbrev S256x128 : Shape := ⟨2, ![256, 128]⟩
abbrev S512x128 : Shape := ⟨2, ![512, 128]⟩
abbrev S256x512 : Shape := ⟨2, ![256, 512]⟩
abbrev S8x512 : Shape := ⟨2, ![8, 512]⟩
abbrev S128x512 : Shape := ⟨2, ![128, 512]⟩
abbrev S16x8x512 : Shape := ⟨3, ![16, 8, 512]⟩
abbrev S512 : Shape := ⟨1, ![512]⟩
abbrev S512x512 : Shape := ⟨2, ![512, 512]⟩
abbrev S768x128 : Shape := ⟨2, ![768, 128]⟩
abbrev S768x512 : Shape := ⟨2, ![768, 512]⟩
abbrev S128x768 : Shape := ⟨2, ![128, 768]⟩
abbrev S1024x128 : Shape := ⟨2, ![1024, 128]⟩
abbrev S1024x512 : Shape := ⟨2, ![1024, 512]⟩
abbrev S128x1024 : Shape := ⟨2, ![128, 1024]⟩
abbrev S1280x128 : Shape := ⟨2, ![1280, 128]⟩
abbrev S1280x512 : Shape := ⟨2, ![1280, 512]⟩
abbrev S128x1280 : Shape := ⟨2, ![128, 1280]⟩
abbrev S1536x128 : Shape := ⟨2, ![1536, 128]⟩
abbrev S1536x512 : Shape := ⟨2, ![1536, 512]⟩
abbrev S128x1536 : Shape := ⟨2, ![128, 1536]⟩
abbrev S1792x128 : Shape := ⟨2, ![1792, 128]⟩
abbrev S1792x512 : Shape := ⟨2, ![1792, 512]⟩
abbrev S128x1792 : Shape := ⟨2, ![128, 1792]⟩

abbrev nBuf : Space → Nat
  | .hbm => 10
  | .vmem => 26
  | .smem => 0
  | _ => 0

abbrev bufTy : (tb : Table) → Fin (tcTables nBuf tb) → BufTy
  | .hbm, ⟨0, _⟩ => ⟨S8x2048x4096, .bf16⟩
  | .hbm, ⟨1, _⟩ => ⟨S8x2048x1024, .bf16⟩
  | .hbm, ⟨2, _⟩ => ⟨S8x2048x1024, .bf16⟩
  | .hbm, ⟨3, _⟩ => ⟨S8x2048x4096, .bf16⟩
  | .hbm, ⟨4, _⟩ => ⟨S8x2048x4096, .fp8e4m3⟩
  | .hbm, ⟨5, _⟩ => ⟨S8x2048x1024, .fp8e4m3⟩
  | .hbm, ⟨6, _⟩ => ⟨S8x2048x1024, .fp8e4m3⟩
  | .hbm, ⟨7, _⟩ => ⟨S8x8x8x128, .f32⟩
  | .hbm, ⟨8, _⟩ => ⟨S8x8x16x128, .f32⟩
  | .hbm, ⟨9, _⟩ => ⟨S8x8x16x128, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .fp8e4m3⟩
  | .local _ .vmem, ⟨9, _⟩ => ⟨S1x2048x512, .fp8e4m3⟩
  | .local _ .vmem, ⟨10, _⟩ => ⟨S1x2048x128, .fp8e4m3⟩
  | .local _ .vmem, ⟨11, _⟩ => ⟨S1x2048x128, .fp8e4m3⟩
  | .local _ .vmem, ⟨12, _⟩ => ⟨S1x2048x128, .fp8e4m3⟩
  | .local _ .vmem, ⟨13, _⟩ => ⟨S1x2048x128, .fp8e4m3⟩
  | .local _ .vmem, ⟨14, _⟩ => ⟨S1x1x8x128, .f32⟩
  | .local _ .vmem, ⟨15, _⟩ => ⟨S1x1x8x128, .f32⟩
  | .local _ .vmem, ⟨16, _⟩ => ⟨S1x1x16x128, .f32⟩
  | .local _ .vmem, ⟨17, _⟩ => ⟨S1x1x16x128, .f32⟩
  | .local _ .vmem, ⟨18, _⟩ => ⟨S1x1x16x128, .f32⟩
  | .local _ .vmem, ⟨19, _⟩ => ⟨S1x1x16x128, .f32⟩
  | .local _ .vmem, ⟨20, _⟩ => ⟨S4x2048x128, .fp8e4m3⟩
  | .local _ .vmem, ⟨21, _⟩ => ⟨S2048x128, .fp8e4m3⟩
  | .local _ .vmem, ⟨22, _⟩ => ⟨S128x2048, .bf16⟩
  | .local _ .vmem, ⟨23, _⟩ => ⟨S2048x512, .f32⟩
  | .local _ .vmem, ⟨24, _⟩ => ⟨S2048x512, .fp8e4m3⟩
  | .local _ .vmem, ⟨25, _⟩ => ⟨S16x128, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "softmax_log2" => some (((Real.sqrt 128)⁻¹ * (Real.log 2)⁻¹ : ℝ) : EReal)
  | _ => none
-- ==== ReferenceIdeal.lean ====
abbrev S8x2048x4096 : Shape := ⟨3, ![8, 2048, 4096]⟩
abbrev S8x2048x1024 : Shape := ⟨3, ![8, 2048, 1024]⟩
abbrev S8x2048x32x128 : Shape := ⟨4, ![8, 2048, 32, 128]⟩
abbrev S8x1x2048x32x128 : Shape := ⟨5, ![8, 1, 2048, 32, 128]⟩
abbrev S_ : Shape := ⟨0, ![]⟩
abbrev S8x1x32 : Shape := ⟨3, ![8, 1, 32]⟩
abbrev S8x1x1x32x1 : Shape := ⟨5, ![8, 1, 1, 32, 1]⟩
abbrev S8x2048x8x128 : Shape := ⟨4, ![8, 2048, 8, 128]⟩
abbrev S8x16x128x8x128 : Shape := ⟨5, ![8, 16, 128, 8, 128]⟩
abbrev S8x16x8 : Shape := ⟨3, ![8, 16, 8]⟩
abbrev S8x16x1x8x1 : Shape := ⟨5, ![8, 16, 1, 8, 1]⟩
abbrev S8x8x4 : Shape := ⟨3, ![8, 8, 4]⟩
abbrev S8x2048x8x4x128 : Shape := ⟨5, ![8, 2048, 8, 4, 128]⟩
abbrev S8x16x128x8 : Shape := ⟨4, ![8, 16, 128, 8]⟩
abbrev S8x2048x8 : Shape := ⟨3, ![8, 2048, 8]⟩
abbrev S8x8x4x1x1 : Shape := ⟨5, ![8, 8, 4, 1, 1]⟩
abbrev S8x8x2048 : Shape := ⟨3, ![8, 8, 2048]⟩
abbrev S8x8x1x1x2048 : Shape := ⟨5, ![8, 8, 1, 1, 2048]⟩
abbrev S8x8x4x1x2048 : Shape := ⟨5, ![8, 8, 4, 1, 2048]⟩
abbrev S8x8x2048x2048x4 : Shape := ⟨5, ![8, 8, 2048, 2048, 4]⟩
abbrev S8x8x4x2048x2048 : Shape := ⟨5, ![8, 8, 4, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x4x2048 : Shape := ⟨4, ![8, 8, 4, 2048]⟩
abbrev S8x8x4x2048x1 : Shape := ⟨5, ![8, 8, 4, 2048, 1]⟩
abbrev S8x2048x8x1 : Shape := ⟨4, ![8, 2048, 8, 1]⟩
abbrev S8x8x4x2048x128 : Shape := ⟨5, ![8, 8, 4, 2048, 128]⟩
abbrev S8x8x8 : Shape := ⟨3, ![8, 8, 8]⟩
abbrev S8x8x8x1 : Shape := ⟨4, ![8, 8, 8, 1]⟩
abbrev S8x8x8x128 : Shape := ⟨4, ![8, 8, 8, 128]⟩
abbrev S8x8x16 : Shape := ⟨3, ![8, 8, 16]⟩
abbrev S8x8x16x1 : Shape := ⟨4, ![8, 8, 16, 1]⟩
abbrev S8x8x16x128 : Shape := ⟨4, ![8, 8, 16, 128]⟩

abbrev nBuf : Space → Nat
  | .hbm => 203
  | .vmem => 0
  | .smem => 0
  | _ => 0

abbrev hbmTy0_0 (i : Nat) : BufTy := match i % 128 with
  | 0 => ⟨S8x2048x4096, .bf16⟩
  | 1 => ⟨S8x2048x1024, .bf16⟩
  | 2 => ⟨S8x2048x1024, .bf16⟩
  | 3 => ⟨S8x2048x32x128, .bf16⟩
  | 4 => ⟨S8x2048x32x128, .f32⟩
  | 5 => ⟨S8x1x2048x32x128, .f32⟩
  | 6 => ⟨S8x1x2048x32x128, .f32⟩
  | 7 => ⟨S_, .f32⟩
  | 8 => ⟨S8x1x32, .f32⟩
  | 9 => ⟨S_, .f32⟩
  | 10 => ⟨S8x1x32, .f32⟩
  | 11 => ⟨S8x1x32, .f32⟩
  | 12 => ⟨S_, .f32⟩
  | 13 => ⟨S_, .f32⟩
  | 14 => ⟨S_, .f32⟩
  | 15 => ⟨S8x1x32, .f32⟩
  | 16 => ⟨S8x1x32, .i1⟩
  | 17 => ⟨S8x1x32, .f32⟩
  | 18 => ⟨S8x1x32, .f32⟩
  | 19 => ⟨S8x1x32, .f32⟩
  | 20 => ⟨S8x1x32, .f32⟩
  | 21 => ⟨S_, .f32⟩
  | 22 => ⟨S8x1x32, .f32⟩
  | 23 => ⟨S8x1x32, .f32⟩
  | 24 => ⟨S_, .f32⟩
  | 25 => ⟨S_, .f32⟩
  | 26 => ⟨S8x1x32, .f32⟩
  | 27 => ⟨S8x1x32, .f32⟩
  | 28 => ⟨S8x1x32, .f32⟩
  | 29 => ⟨S8x1x32, .f32⟩
  | 30 => ⟨S8x1x32, .f32⟩
  | 31 => ⟨S8x1x32, .f32⟩
  | 32 => ⟨S8x1x32, .f32⟩
  | 33 => ⟨S8x1x32, .f32⟩
  | 34 => ⟨S8x1x32, .f32⟩
  | 35 => ⟨S8x1x1x32x1, .f32⟩
  | 36 => ⟨S8x1x2048x32x128, .f32⟩
  | 37 => ⟨S8x1x2048x32x128, .f32⟩
  | 38 => ⟨S_, .f32⟩
  | 39 => ⟨S_, .f32⟩
  | 40 => ⟨S_, .f32⟩
  | 41 => ⟨S8x1x2048x32x128, .f32⟩
  | 42 => ⟨S8x1x2048x32x128, .f32⟩
  | 43 => ⟨S_, .f32⟩
  | 44 => ⟨S8x1x2048x32x128, .f32⟩
  | 45 => ⟨S8x1x2048x32x128, .f32⟩
  | 46 => ⟨S8x2048x32x128, .f32⟩
  | 47 => ⟨S8x2048x8x128, .bf16⟩
  | 48 => ⟨S8x2048x8x128, .f32⟩
  | 49 => ⟨S8x16x128x8x128, .f32⟩
  | 50 => ⟨S8x16x128x8x128, .f32⟩
  | 51 => ⟨S_, .f32⟩
  | 52 => ⟨S8x16x8, .f32⟩
  | 53 => ⟨S_, .f32⟩
  | 54 => ⟨S8x16x8, .f32⟩
  | 55 => ⟨S8x16x8, .f32⟩
  | 56 => ⟨S_, .f32⟩
  | 57 => ⟨S_, .f32⟩
  | 58 => ⟨S_, .f32⟩
  | 59 => ⟨S8x16x8, .f32⟩
  | 60 => ⟨S8x16x8, .i1⟩
  | 61 => ⟨S8x16x8, .f32⟩
  | 62 => ⟨S8x16x8, .f32⟩
  | 63 => ⟨S8x16x8, .f32⟩
  | 64 => ⟨S8x16x8, .f32⟩
  | 65 => ⟨S_, .f32⟩
  | 66 => ⟨S8x16x8, .f32⟩
  | 67 => ⟨S8x16x8, .f32⟩
  | 68 => ⟨S_, .f32⟩
  | 69 => ⟨S_, .f32⟩
  | 70 => ⟨S8x16x8, .f32⟩
  | 71 => ⟨S8x16x8, .f32⟩
  | 72 => ⟨S8x16x8, .f32⟩
  | 73 => ⟨S8x16x8, .f32⟩
  | 74 => ⟨S8x16x8, .f32⟩
  | 75 => ⟨S8x16x8, .f32⟩
  | 76 => ⟨S8x16x8, .f32⟩
  | 77 => ⟨S8x16x8, .f32⟩
  | 78 => ⟨S8x16x8, .f32⟩
  | 79 => ⟨S8x16x1x8x1, .f32⟩
  | 80 => ⟨S8x16x128x8x128, .f32⟩
  | 81 => ⟨S8x16x128x8x128, .f32⟩
  | 82 => ⟨S_, .f32⟩
  | 83 => ⟨S_, .f32⟩
  | 84 => ⟨S_, .f32⟩
  | 85 => ⟨S8x16x128x8x128, .f32⟩
  | 86 => ⟨S8x16x128x8x128, .f32⟩
  | 87 => ⟨S_, .f32⟩
  | 88 => ⟨S8x16x128x8x128, .f32⟩
  | 89 => ⟨S8x16x128x8x128, .f32⟩
  | 90 => ⟨S8x2048x8x128, .f32⟩
  | 91 => ⟨S8x2048x8x128, .bf16⟩
  | 92 => ⟨S8x2048x8x128, .f32⟩
  | 93 => ⟨S8x16x128x8x128, .f32⟩
  | 94 => ⟨S8x16x128x8x128, .f32⟩
  | 95 => ⟨S_, .f32⟩
  | 96 => ⟨S8x16x8, .f32⟩
  | 97 => ⟨S_, .f32⟩
  | 98 => ⟨S8x16x8, .f32⟩
  | 99 => ⟨S8x16x8, .f32⟩
  | 100 => ⟨S_, .f32⟩
  | 101 => ⟨S_, .f32⟩
  | 102 => ⟨S_, .f32⟩
  | 103 => ⟨S8x16x8, .f32⟩
  | 104 => ⟨S8x16x8, .i1⟩
  | 105 => ⟨S8x16x8, .f32⟩
  | 106 => ⟨S8x16x8, .f32⟩
  | 107 => ⟨S8x16x8, .f32⟩
  | 108 => ⟨S8x16x8, .f32⟩
  | 109 => ⟨S_, .f32⟩
  | 110 => ⟨S8x16x8, .f32⟩
  | 111 => ⟨S8x16x8, .f32⟩
  | 112 => ⟨S_, .f32⟩
  | 113 => ⟨S_, .f32⟩
  | 114 => ⟨S8x16x8, .f32⟩
  | 115 => ⟨S8x16x8, .f32⟩
  | 116 => ⟨S8x16x8, .f32⟩
  | 117 => ⟨S8x16x8, .f32⟩
  | 118 => ⟨S8x16x8, .f32⟩
  | 119 => ⟨S8x16x8, .f32⟩
  | 120 => ⟨S8x16x8, .f32⟩
  | 121 => ⟨S8x16x8, .f32⟩
  | 122 => ⟨S8x16x8, .f32⟩
  | 123 => ⟨S8x16x1x8x1, .f32⟩
  | 124 => ⟨S8x16x128x8x128, .f32⟩
  | 125 => ⟨S8x16x128x8x128, .f32⟩
  | 126 => ⟨S_, .f32⟩
  | 127 => ⟨S_, .f32⟩
  | _ => ⟨S8x2048x4096, .bf16⟩

abbrev hbmTy0_1 (i : Nat) : BufTy := match i % 128 with
  | 0 => ⟨S_, .f32⟩
  | 1 => ⟨S8x16x128x8x128, .f32⟩
  | 2 => ⟨S8x16x128x8x128, .f32⟩
  | 3 => ⟨S_, .f32⟩
  | 4 => ⟨S8x16x128x8x128, .f32⟩
  | 5 => ⟨S8x16x128x8x128, .f32⟩
  | 6 => ⟨S8x2048x8x128, .f32⟩
  | 7 => ⟨S8x8x4, .f32⟩
  | 8 => ⟨S8x2048x8x4x128, .f32⟩
  | 9 => ⟨S8x16x128x8, .f32⟩
  | 10 => ⟨S8x2048x8, .f32⟩
  | 11 => ⟨S8x16x128x8, .f32⟩
  | 12 => ⟨S8x2048x8, .f32⟩
  | 13 => ⟨S_, .f32⟩
  | 14 => ⟨S_, .f32⟩
  | 15 => ⟨S8x8x4, .f32⟩
  | 16 => ⟨S8x8x4, .f32⟩
  | 17 => ⟨S8x8x4x1x1, .f32⟩
  | 18 => ⟨S8x8x2048, .f32⟩
  | 19 => ⟨S8x8x1x1x2048, .f32⟩
  | 20 => ⟨S8x8x4x1x2048, .f32⟩
  | 21 => ⟨S8x8x4x1x2048, .f32⟩
  | 22 => ⟨S8x8x4x1x2048, .f32⟩
  | 23 => ⟨S8x8x2048x2048x4, .f32⟩
  | 24 => ⟨S8x8x4x2048x2048, .f32⟩
  | 25 => ⟨S8x8x4x2048x2048, .f32⟩
  | 26 => ⟨S8x8x4x2048x2048, .f32⟩
  | 27 => ⟨S2048, .i32⟩
  | 28 => ⟨S1x2048, .i32⟩
  | 29 => ⟨S2048, .i32⟩
  | 30 => ⟨S2048x1, .i32⟩
  | 31 => ⟨S2048x2048, .i32⟩
  | 32 => ⟨S2048x2048, .i32⟩
  | 33 => ⟨S2048x2048, .i1⟩
  | 34 => ⟨S_, .f32⟩
  | 35 => ⟨S_, .f32⟩
  | 36 => ⟨S8x8x4x2048x2048, .i1⟩
  | 37 => ⟨S8x8x4x2048x2048, .f32⟩
  | 38 => ⟨S8x8x4x2048x2048, .f32⟩
  | 39 => ⟨S_, .f32⟩
  | 40 => ⟨S8x8x4x2048, .f32⟩
  | 41 => ⟨S8x8x4x2048x1, .f32⟩
  | 42 => ⟨S8x8x4x2048x2048, .f32⟩
  | 43 => ⟨S8x8x4x2048x2048, .f32⟩
  | 44 => ⟨S8x8x4x2048x2048, .f32⟩
  | 45 => ⟨S_, .f32⟩
  | 46 => ⟨S8x8x4x2048, .f32⟩
  | 47 => ⟨S8x8x4x2048x1, .f32⟩
  | 48 => ⟨S8x2048x8x128, .bf16⟩
  | 49 => ⟨S8x2048x8, .bf16⟩
  | 50 => ⟨S8x2048x8x1, .bf16⟩
  | 51 => ⟨S8x2048x8x128, .bf16⟩
  | 52 => ⟨S8x2048x8x128, .bf16⟩
  | 53 => ⟨S8x8x4x2048x2048, .bf16⟩
  | 54 => ⟨S8x8x4x2048x128, .f32⟩
  | 55 => ⟨S8x8x4x2048x128, .f32⟩
  | 56 => ⟨S8x8x4x2048x128, .f32⟩
  | 57 => ⟨S8x2048x8x4x128, .f32⟩
  | 58 => ⟨S8x2048x4096, .f32⟩
  | 59 => ⟨S8x2048x4096, .bf16⟩
  | 60 => ⟨S8x8x8, .f32⟩
  | 61 => ⟨S8x8x8x1, .f32⟩
  | 62 => ⟨S8x8x8x128, .f32⟩
  | 63 => ⟨S8x8x16, .f32⟩
  | 64 => ⟨S8x8x16x1, .f32⟩
  | 65 => ⟨S8x8x16x128, .f32⟩
  | 66 => ⟨S8x8x16, .f32⟩
  | 67 => ⟨S8x8x16x1, .f32⟩
  | 68 => ⟨S8x8x16x128, .f32⟩
  | 69 => ⟨S8x2048x4096, .f32⟩
  | 70 => ⟨S8x2048x4096, .fp8e4m3⟩
  | 71 => ⟨S8x2048x1024, .f32⟩
  | 72 => ⟨S8x2048x1024, .fp8e4m3⟩
  | 73 => ⟨S8x2048x1024, .f32⟩
  | 74 => ⟨S8x2048x1024, .fp8e4m3⟩
  | _ => ⟨S8x2048x4096, .bf16⟩

abbrev hbmTy (i : Nat) : BufTy := match i / 128 with
  | 0 => hbmTy0_0 i
  | 1 => hbmTy0_1 i
  | _ => ⟨S8x2048x4096, .bf16⟩

abbrev bufTy : (tb : Table) → Fin (tcTables nBuf tb) → BufTy
  | .hbm, ⟨i, _⟩ => hbmTy i
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_call2_v0 : Ref sig .tc := ⟨.hbm, 69, rfl⟩
abbrev main_call2_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_cst_14 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_15 : Ref sig .tc := ⟨.hbm, 95, rfl⟩
abbrev main_v62 : Ref sig .tc := ⟨.hbm, 96, rfl⟩
abbrev main_cst_16 : Ref sig .tc := ⟨.hbm, 97, rfl⟩
abbrev main_v63 : Ref sig .tc := ⟨.hbm, 98, rfl⟩
abbrev main_v64 : Ref sig .tc := ⟨.hbm, 99, rfl⟩
abbrev main_cst_17 : Ref sig .tc := ⟨.hbm, 100, rfl⟩
abbrev main_v65 : Ref sig .tc := ⟨.hbm, 101, rfl⟩
abbrev main_cst_18 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_19 : Ref sig .tc := ⟨.hbm, 109, rfl⟩
abbrev main_v72 : Ref sig .tc := ⟨.hbm, 110, rfl⟩
abbrev main_v73 : Ref sig .tc := ⟨.hbm, 111, rfl⟩
abbrev main_cst_20 : Ref sig .tc := ⟨.hbm, 112, rfl⟩
abbrev main_call4_v0 : Ref sig .tc := ⟨.hbm, 113, rfl⟩
abbrev main_call4_v1 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_21 : Ref sig .tc := ⟨.hbm, 126, rfl⟩
abbrev main_cst_22 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_23 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_24 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_v113 : Ref sig .tc := ⟨.hbm, 166, rfl⟩
abbrev main_cst_25 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_26 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩

abbrev nD : Nat := 1
abbrev τ : Topo := Topo.v7x

variable {F : FTy → Type} [FloatOps F]
-- ==== Proof.Sem.lean ====
/- What a straight-line kernel body does to the contents of its sixteen memrefs: a state names every memref's contents,
   a load reads a rectangle of it, a store overwrites one. `T M c s p Q` says that the program `p`, owning the memrefs
   at `s`, ends owning them at a state which meets `Q`. -/
module

public import proofs.«01_k».proof.Proof.Gen.KernelIdeal.Frame

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- The body's memrefs by what they hold: the three inputs, the seven results, the six scratch buffers. -/
inductive Mn
  | x | k | v | o | qc | kc | vc | qs | ks | vs | q8 | k8 | vt | sc | p8 | fk
  deriving DecidableEq

instance : Fintype Mn := ⟨{.x, .k, .v, .o, .qc, .kc, .vc, .qs, .ks, .vs, .q8, .k8, .vt, .sc, .p8, .fk}, fun a => by cases a <;> decide⟩

/-- Each memref's shape, -/
@[reducible] def shp : Mn → Shape
  | .x => S1x2048x512 | .k => S1x2048x128 | .v => S1x2048x128
  | .o => S1x2048x512 | .qc => S1x2048x512 | .kc => S1x2048x128 | .vc => S1x2048x128
  | .qs => S1x1x8x128 | .ks => S1x1x16x128 | .vs => S1x1x16x128
  | .q8 => S4x2048x128 | .k8 => S2048x128 | .vt => S128x2048 | .sc => S2048x512 | .p8 => S2048x512 | .fk => S16x128

/-- and its element type. -/
@[reducible] def ety : Mn → EltTy
  | .x => .bf16 | .k => .bf16 | .v => .bf16
  | .o => .bf16 | .qc => .fp8e4m3 | .kc => .fp8e4m3 | .vc => .fp8e4m3
  | .qs => .f32 | .ks => .f32 | .vs => .f32
  | .q8 => .fp8e4m3 | .k8 => .fp8e4m3 | .vt => .bf16 | .sc => .f32 | .p8 => .fp8e4m3 | .fk => .f32

variable {F : FTy → Type} [FloatOps F] [Named F]

local notation "𝕄" => MT nD τ sig Unit (Elt F) ℕ (UR sig nD τ) ℕ

/-- The memrefs a body is called with. -/
abbrev Mems := (n : Mn) → Memref sig .tc .vmem (shp n) (ety n)

variable (F) in
/-- What the memrefs hold. -/
abbrev St := (n : Mn) → Vec F (shp n) (ety n)

/-- The state with one memref's contents replaced. -/
def upd (n : Mn) (w : Vec F (shp n) (ety n)) (s : St F) : St F := Function.update s n w

@[simp] theorem upd_same (n : Mn) (w : Vec F (shp n) (ety n)) (s : St F) : upd n w s n = w := Function.update_self ..
theorem upd_ne {n n' : Mn} (w : Vec F (shp n) (ety n)) (s : St F) (h : n' ≠ n) : upd n w s n' = s n' := Function.update_of_ne h ..

/-- Contents with a rectangle overwritten. -/
def put {e : EltTy} {s : Shape} (X : Vec F s e) (r : Rect s) (w : Vec F r.shape e) : Vec F s e := fun y =>
  open Classical in if h : ∃ x, r.emb x = y then w h.choose else X y

theorem put_emb {e : EltTy} {s : Shape} (X : Vec F s e) (r : Rect s) (w : Vec F r.shape e) (x : r.shape.Idx) :
    put X r w (r.emb x) = w x := by
  unfold put
  have h : ∃ x', r.emb x' = r.emb x := ⟨x, rfl⟩
  rw [dif_pos h]
  exact congrArg w (r.emb.injective h.choose_spec)

theorem put_of_not {e : EltTy} {s : Shape} (X : Vec F s e) (r : Rect s) (w : Vec F r.shape e) (y : s.Idx) (h : ∀ x, r.emb x ≠ y) :
    put X r w y = X y := by
  unfold put
  rw [dif_neg (fun ⟨x, hx⟩ => h x hx)]

/-- What a load of a rectangle reads of the contents. -/
def get {e : EltTy} {s : Shape} (X : Vec F s e) (r : Rect s) : Vec F r.shape e := fun x => X (r.emb x)

/-- The whole memrefs are owned at the state. -/
def own (M : Mems) (c : Dev nD) (s : St F) : sProp 𝕄 :=
  bigSep Finset.univ fun n => owns (c : Thread nD τ) (M n) fullShare (s n)

theorem own_open (M : Mems) (c : Dev nD) (s : St F) (n : Mn) :
    own M c s = iprop(owns (c : Thread nD τ) (M n) fullShare (s n) ∗ bigSep (Finset.univ.erase n) fun n => owns (c : Thread nD τ) (M n) fullShare (s n)) :=
  bigSep_erase (Finset.mem_univ n)

theorem own_upd (M : Mems) (c : Dev nD) (s : St F) (n : Mn) (w : Vec F (shp n) (ety n)) :
    own M c (upd n w s) = iprop(owns (c : Thread nD τ) (M n) fullShare w ∗ bigSep (Finset.univ.erase n) fun n => owns (c : Thread nD τ) (M n) fullShare (s n)) := by
  rw [own_open M c _ n, upd_same]
  congr 1
  exact bigSep_congr fun n' h => by rw [upd_ne w s (Finset.ne_of_mem_erase h)]

abbrev Pr (F : FTy → Type) [FloatOps F] := Prog (TpuEff nD τ sig (Elt F) Λ₀ .tc) PUnit

/-- Owning the memrefs at `s`, the program ends owning them at a state that meets `Q`. -/
def T (M : Mems) (c : Dev nD) (s : St F) (p : Pr F) (Q : St F → Prop) : Prop :=
  own M c s ⊢ wp frame (wpE (defs₀ (F := F)) Variants.none c none) Set.univ p fun _ => iprop(∃ s', ⌜Q s'⌝ ∗ own M c s')

theorem T_ret (M : Mems) (c : Dev nD) (s : St F) {Q : St F → Prop} (h : Q s) : T M c s (.ret ⟨⟩) Q := by
  unfold T
  refine BIBase.Entails.trans ?_ (le_wp_ret _ _ _ _ _)
  iintro H
  iexists s; isplitr
  · ipureintro; exact h
  · iexact H

theorem T_load (M : Mems) (c : Dev nD) (s : St F) (n : Mn) (r : Rect (shp n)) {hl : (M n).view.LoadsAt r.toLoadRect}
    {k : (r.shape.Idx → Elt F (ety n)) → Pr F} {Q : St F → Prop} (h : T M c s (k (get (s n) r)) Q) :
    T M c s (.op (.load (M n) r.toLoadRect hl) k) Q := by
  unfold T at h ⊢
  rw [own_open M c s n] at h ⊢
  unfold owns at h ⊢
  iintro ⟨⟨%f, %hf, H⟩, HR⟩
  iapply (wp_load Variants.none (c : Thread nD τ) none Set.univ (View.setOn_subset_set _ _)) $$ H
  iintro H
  rw [show (M n).view.readAt (Elt F) r.toLoadRect f = get (s n) r from by rw [← hf]; rfl]
  iapply h
  isplitl [H]
  · iexists f; isplitr
    · ipureintro; exact hf
    · iexact H
  · iexact HR

theorem read_write_put {sp : Space} {sh : Shape} {e : EltTy} (m : Memref sig .tc sp sh e) (r : Rect sh) (f : m.view.ty.Contents (Elt F))
    (w : r.shape.Idx → Elt F e) : m.view.read (Elt F) ((m.access r).write (Elt F) f w Finset.univ) = put (m.view.read (Elt F) f) r w := by
  funext y
  by_cases h : ∃ x, r.emb x = y
  · obtain ⟨x, rfl⟩ := h
    rw [put_emb]
    exact View.read_slice_write_emb r f w (Finset.mem_univ x)
  · have h' : ∀ x, r.emb x ≠ y := fun x hx => h ⟨x, hx⟩
    rw [put_of_not _ _ _ _ h']
    exact View.read_slice_write_of_not_mem r f w _ (by
      intro hm
      obtain ⟨x, _, hx⟩ := Finset.mem_map.mp hm
      exact h' x hx)

theorem T_store (M : Mems) (c : Dev nD) (s : St F) (n : Mn) (r : Rect (shp n)) {w : r.shape.Idx → Elt F (ety n)}
    {hx : ((M n).access r).Stores Finset.univ} {hm : Finset.univ = Finset.univ ∨ ∀ a, r.stride a = 1}
    {k : PUnit → Pr F} {Q : St F → Prop} (h : T M c (upd n (put (s n) r w) s) (k ⟨⟩) Q) :
    T M c s (.op (.store (M n) r w Finset.univ hx hm) k) Q := by
  unfold T at h ⊢
  rw [own_upd M c s n] at h
  rw [own_open M c s n]
  unfold owns at h ⊢
  iintro ⟨⟨%f, %hf, H⟩, HR⟩
  iapply (wp_store Variants.none (c : Thread nD τ) none Set.univ (m := M n) (r := r) (S := (M n).view.set) (f := f)
    (by rw [View.setOn_univ]; exact View.set_slice_subset _ _)) $$ H
  iintro H
  iapply h
  isplitl [H]
  · iexists _; isplitr; swap
    · iexact H
    · ipureintro; rw [← hf]; exact read_write_put (M n) r f w
  · iexact HR

end Cert.KernelIdeal.Hand
end
-- ==== Proof.Segs.lean ====
/- The kernel body's quantising part, one block at a time: the key and value blocks of 128 rows, and the query
   heads. Each lemma states the memory operations of one block with the block's number a variable, and the state
   they leave. -/
module

public import proofs.«01_k».proof.Proof.Sem

@[expose] public section

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F] [Named F]

/-! ## The quantiser's values -/

/-- A 128×128 block of a row block, widened. -/
def wide (x : Vec F S1x128x128 .bf16) : FVec F S128x128 .f32 :=
  extf .f32 (shapeCast S128x128 x shapeCasts_S1x128x128_S128x128 : FVec F S128x128 .bf16) bitsLt_bf16_f32

/-- The largest magnitude of a block, as a 1×1 array. -/
def amaxOf (x : FVec F S128x128 .f32) : FVec F S1x1 .f32 :=
  shapeCast S1x1 (multiReduction .maximumf [1] S1 (shapeCast S1x128
    (multiReduction .maximumf [0] S128 (absf x) 0xFF800000#32 reduces_S128x128_S128 (.inl rfl) rfl : FVec F S128 .f32)
    shapeCasts_S128_S1x128 : FVec F S1x128 .f32) 0xFF800000#32 reduces_S1x128_S1 (.inl rfl) rfl : FVec F S1 .f32) shapeCasts_S1_S1x1

/-- The exponent field of the largest magnitude over 448, by counting the powers of two above it. -/
def fieldOf (a : FVec F S1x1 .f32) : IVec S1x1 32 :=
  subi (broadcast S1x1 255#32) (shapeCast S1x1 (multiReductionI .add [1] S1
    (select (cmpf .olt
        (broadcastTo S1x256 (mulf a (broadcast S1x1 (Scalar.ofBits .f32 0x3B124925#32 : F .f32))) broadcasts_S1x1_S1x256 : FVec F S1x256 .f32)
        (bitcastToFloat .f32 (shli (iota .tc S1x256 32 [1] iota_S1x256_d1_w32 : IVec S1x256 32) (broadcast S1x256 23#32)) : FVec F S1x256 .f32))
      (broadcast S1x256 1#32) (broadcast S1x256 0#32) : IVec S1x256 32) 0#32 reduces_S1x256_S1 rfl : IVec S1 32) shapeCasts_S1_S1x1)

/-- The scale of an exponent field, -/
def scaleOf (f : IVec S1x1 32) : FVec F S1x1 .f32 :=
  select (cmpi .eq f (broadcast S1x1 0#32)) (broadcast S1x1 (Scalar.ofBits .f32 0x3F800000#32 : F .f32))
    (bitcastToFloat .f32 (shli (addi f (broadcast S1x1 1#32)) (broadcast S1x1 23#32)))

/-- and its inverse. -/
def invOf (f : IVec S1x1 32) : FVec F S1x1 .f32 :=
  select (cmpi .eq f (broadcast S1x1 0#32)) (broadcast S1x1 (Scalar.ofBits .f32 0x3F800000#32 : F .f32))
    (bitcastToFloat .f32 (shli (subi (broadcast S1x1 253#32) f) (broadcast S1x1 23#32)))

/-- A block scaled, clipped and rounded. -/
def codesOf (x : FVec F S128x128 .f32) (inv : FVec F S1x1 .f32) : FVec F S128x128 .fp8e4m3 :=
  truncf .fp8e4m3 (minimumf (broadcast S128x128 (Scalar.ofBits .f32 0x43E00000#32 : F .f32))
    (maximumf (broadcast S128x128 (Scalar.ofBits .f32 0xC3E00000#32 : F .f32))
      (mulf x (broadcastTo S128x128 inv broadcasts_S1x1_S128x128)))) bitsLt_fp8e4m3_f32

/-- A scale laid out along a row. -/
def rowOf (sc : FVec F S1x1 .f32) : FVec F S1x128 .f32 :=
  broadcastTo S1x128 (shapeCast S1x1 sc shapeCasts_S1x1_S1x1) broadcasts_S1x1_S1x128

/-- The same along the 256 query rows of a tile. -/
def row256 (sc : FVec F S1x1 .f32) : FVec F S1x256 .f32 :=
  broadcastTo S1x256 (shapeCast S1x1 sc shapeCasts_S1x1_S1x1) broadcasts_S1x1_S1x256

/-- A key block's row of score factors: its scale times the softmax constant. -/
def facOf (sc : FVec F S1x1 .f32) : FVec F S1x128 .f32 :=
  mulf (rowOf sc) (broadcast S1x128 (Named.named κ "softmax_log2" 0x3E0293EE#32 : F .f32))

/-- A value block times its rounded scale, transposed. -/
def vtOf (codes : FVec F S128x128 .fp8e4m3) (sc : FVec F S1x1 .f32) : FVec F S128x128 .bf16 :=
  transpose S128x128 [1, 0] (mulf (extf .bf16 codes bitsLt_fp8e4m3_bf16)
    (broadcastTo S128x128 (truncf .bf16 sc bitsLt_bf16_f32 : FVec F S1x1 .bf16) broadcasts_S1x1_S128x128) : FVec F S128x128 .bf16) transposes_S128x128_p1_0_S128x128

/-! ## The rectangles -/

def rKV (j : ℕ) (hj : j < 16) : Rect S1x2048x128 :=
  Rect.unit (s := S1x2048x128) ![0, 128 * j, 0] S1x128x128.size (by intro a; fin_cases a <;> simp <;> omega)
def rK8 (j : ℕ) (hj : j < 16) : Rect S2048x128 :=
  Rect.unit (s := S2048x128) ![128 * j, 0] S128x128.size (by intro a; fin_cases a <;> simp <;> omega)
def rVt (j : ℕ) (hj : j < 16) : Rect S128x2048 :=
  Rect.unit (s := S128x2048) ![0, 128 * j] S128x128.size (by intro a; fin_cases a <;> simp <;> omega)
def rFk (j : ℕ) (hj : j < 16) : Rect S16x128 :=
  Rect.unit (s := S16x128) ![j, 0] S1x128.size (by intro a; fin_cases a <;> simp <;> omega)
def rSc (j : ℕ) (hj : j < 16) : Rect S1x1x16x128 :=
  Rect.unit (s := S1x1x16x128) ![0, 0, j, 0] S1x1x1x128.size (by intro a; fin_cases a <;> simp <;> omega)
def rQs (h : ℕ) (hh : h < 4) : Rect S1x1x8x128 :=
  Rect.unit (s := S1x1x8x128) ![0, 0, h, 0] S1x1x1x128.size (by intro a; fin_cases a <;> simp <;> omega)
def rX (h j : ℕ) (hh : h < 4) (hj : j < 16) : Rect S1x2048x512 :=
  Rect.unit (s := S1x2048x512) ![0, 128 * j, 128 * h] S1x128x128.size (by intro a; fin_cases a <;> simp <;> omega)
def rQ8 (h j : ℕ) (hh : h < 4) (hj : j < 16) : Rect S4x2048x128 :=
  Rect.unit (s := S4x2048x128) ![h, 128 * j, 0] S1x128x128.size (by intro a; fin_cases a <;> simp <;> omega)

/-! ## A key block and a value block -/

def fieldK (s : St F) (j : ℕ) (hj : j < 16) : IVec S1x1 32 := fieldOf (amaxOf (wide (get (s .k) (rKV j hj))))
def codesK (s : St F) (j : ℕ) (hj : j < 16) : FVec F S128x128 .fp8e4m3 := codesOf (wide (get (s .k) (rKV j hj))) (invOf (fieldK s j hj))
def fieldV (s : St F) (j : ℕ) (hj : j < 16) : IVec S1x1 32 := fieldOf (amaxOf (wide (get (s .v) (rKV j hj))))
def codesV (s : St F) (j : ℕ) (hj : j < 16) : FVec F S128x128 .fp8e4m3 := codesOf (wide (get (s .v) (rKV j hj))) (invOf (fieldV s j hj))

/-- What a key block's operations leave. -/
def stepK (j : ℕ) (hj : j < 16) (s : St F) : St F :=
  upd .fk (put (s .fk) (rFk j hj) (shapeCast S1x128 (facOf (scaleOf (fieldK s j hj))) shapeCasts_S1x128_S1x128 : FVec F S1x128 .f32))
  <| upd .ks (put (s .ks) (rSc j hj) (shapeCast S1x1x1x128 (rowOf (scaleOf (fieldK s j hj))) shapeCasts_S1x128_S1x1x1x128 : FVec F S1x1x1x128 .f32))
  <| upd .kc (put (s .kc) (rKV j hj) (shapeCast S1x128x128 (codesK s j hj) shapeCasts_S128x128_S1x128x128 : FVec F S1x128x128 .fp8e4m3))
  <| upd .k8 (put (s .k8) (rK8 j hj) (shapeCast S128x128 (codesK s j hj) shapeCasts_S128x128_S128x128 : FVec F S128x128 .fp8e4m3)) s

/-- What a value block's operations leave. -/
def stepV (j : ℕ) (hj : j < 16) (s : St F) : St F :=
  upd .vt (put (s .vt) (rVt j hj) (shapeCast S128x128 (vtOf (codesV s j hj) (scaleOf (fieldV s j hj))) shapeCasts_S128x128_S128x128 : FVec F S128x128 .bf16))
  <| upd .vs (put (s .vs) (rSc j hj) (shapeCast S1x1x1x128 (rowOf (scaleOf (fieldV s j hj))) shapeCasts_S1x128_S1x1x1x128 : FVec F S1x1x1x128 .f32))
  <| upd .vc (put (s .vc) (rKV j hj) (shapeCast S1x128x128 (codesV s j hj) shapeCasts_S128x128_S1x128x128 : FVec F S1x128x128 .fp8e4m3)) s

variable (M : Mems) (c : Dev nD) (s : St F) {k : Pr F} {Q : St F → Prop}

theorem T_stepK (j : ℕ) (hj : j < 16) {hl1 hl2 hl3 hl4 hl5 hx2 hx3 hx4 hx5 hm2 hm3 hm4 hm5} (h : T M c (stepK j hj s) k Q) :
    T M c s (.op (.load (M .k) (rKV j hj).toLoadRect hl1) fun x =>
      .op (.load (M .k8) (rK8 j hj).toLoadRect hl2) fun _ =>
      .op (.store (M .k8) (rK8 j hj) (shapeCast S128x128 (codesOf (wide x) (invOf (fieldOf (amaxOf (wide x))))) shapeCasts_S128x128_S128x128 : FVec F S128x128 .fp8e4m3) Finset.univ hx2 hm2) fun _ =>
      .op (.load (M .kc) (rKV j hj).toLoadRect hl3) fun _ =>
      .op (.store (M .kc) (rKV j hj) (shapeCast S1x128x128 (codesOf (wide x) (invOf (fieldOf (amaxOf (wide x))))) shapeCasts_S128x128_S1x128x128 : FVec F S1x128x128 .fp8e4m3) Finset.univ hx3 hm3) fun _ =>
      .op (.load (M .ks) (rSc j hj).toLoadRect hl4) fun _ =>
      .op (.store (M .ks) (rSc j hj) (shapeCast S1x1x1x128 (rowOf (scaleOf (fieldOf (amaxOf (wide x))))) shapeCasts_S1x128_S1x1x1x128 : FVec F S1x1x1x128 .f32) Finset.univ hx4 hm4) fun _ =>
      .op (.load (M .fk) (rFk j hj).toLoadRect hl5) fun _ =>
      .op (.store (M .fk) (rFk j hj) (shapeCast S1x128 (facOf (scaleOf (fieldOf (amaxOf (wide x))))) shapeCasts_S1x128_S1x128 : FVec F S1x128 .f32) Finset.univ hx5 hm5) fun _ => k) Q := by
  refine T_load M c s .k _ ?_
  refine T_load M c s .k8 _ ?_
  refine T_store M c s .k8 _ ?_
  refine T_load M c _ .kc _ ?_
  refine T_store M c _ .kc _ ?_
  refine T_load M c _ .ks _ ?_
  refine T_store M c _ .ks _ ?_
  refine T_load M c _ .fk _ ?_
  refine T_store M c _ .fk _ ?_
  exact h

theorem T_stepV (j : ℕ) (hj : j < 16) {hl1 hl2 hl3 hl4 hx2 hx3 hx4 hm2 hm3 hm4} (h : T M c (stepV j hj s) k Q) :
    T M c s (.op (.load (M .v) (rKV j hj).toLoadRect hl1) fun x =>
      .op (.load (M .vc) (rKV j hj).toLoadRect hl2) fun _ =>
      .op (.store (M .vc) (rKV j hj) (shapeCast S1x128x128 (codesOf (wide x) (invOf (fieldOf (amaxOf (wide x))))) shapeCasts_S128x128_S1x128x128 : FVec F S1x128x128 .fp8e4m3) Finset.univ hx2 hm2) fun _ =>
      .op (.load (M .vs) (rSc j hj).toLoadRect hl3) fun _ =>
      .op (.store (M .vs) (rSc j hj) (shapeCast S1x1x1x128 (rowOf (scaleOf (fieldOf (amaxOf (wide x))))) shapeCasts_S1x128_S1x1x1x128 : FVec F S1x1x1x128 .f32) Finset.univ hx3 hm3) fun _ =>
      .op (.load (M .vt) (rVt j hj).toLoadRect hl4) fun _ =>
      .op (.store (M .vt) (rVt j hj) (shapeCast S128x128 (vtOf (codesOf (wide x) (invOf (fieldOf (amaxOf (wide x))))) (scaleOf (fieldOf (amaxOf (wide x))))) shapeCasts_S128x128_S128x128 : FVec F S128x128 .bf16) Finset.univ hx4 hm4) fun _ => k) Q := by
  refine T_load M c s .v _ ?_
  refine T_load M c s .vc _ ?_
  refine T_store M c s .vc _ ?_
  refine T_load M c _ .vs _ ?_
  refine T_store M c _ .vs _ ?_
  refine T_load M c _ .vt _ ?_
  refine T_store M c _ .vt _ ?_
  exact h

/-! ## A query head's block -/

/-- What storing a block of query codes leaves, at the head's inverse scale. -/
def stepQ (h j : ℕ) (hh : h < 4) (hj : j < 16) (inv : FVec F S1x1 .f32) (s : St F) : St F :=
  upd .qc (put (s .qc) (rX h j hh hj) (shapeCast S1x128x128 (codesOf (wide (get (s .x) (rX h j hh hj))) inv) shapeCasts_S128x128_S1x128x128 : FVec F S1x128x128 .fp8e4m3))
  <| upd .q8 (put (s .q8) (rQ8 h j hh hj) (shapeCast S1x128x128 (codesOf (wide (get (s .x) (rX h j hh hj))) inv) shapeCasts_S128x128_S1x128x128 : FVec F S1x128x128 .fp8e4m3)) s

theorem T_stepQ (hd j : ℕ) (hh : hd < 4) (hj : j < 16) {inv : FVec F S1x1 .f32} {hl1 hl2 hl3 hx2 hx3 hm2 hm3} (h : T M c (stepQ hd j hh hj inv s) k Q) :
    T M c s (.op (.load (M .x) (rX hd j hh hj).toLoadRect hl1) fun x =>
      .op (.load (M .q8) (rQ8 hd j hh hj).toLoadRect hl2) fun _ =>
      .op (.store (M .q8) (rQ8 hd j hh hj) (shapeCast S1x128x128 (codesOf (wide x) inv) shapeCasts_S128x128_S1x128x128 : FVec F S1x128x128 .fp8e4m3) Finset.univ hx2 hm2) fun _ =>
      .op (.load (M .qc) (rX hd j hh hj).toLoadRect hl3) fun _ =>
      .op (.store (M .qc) (rX hd j hh hj) (shapeCast S1x128x128 (codesOf (wide x) inv) shapeCasts_S128x128_S1x128x128 : FVec F S1x128x128 .fp8e4m3) Finset.univ hx3 hm3) fun _ => k) Q := by
  refine T_load M c s .x _ ?_
  refine T_load M c s .q8 _ ?_
  refine T_store M c s .q8 _ ?_
  refine T_load M c _ .qc _ ?_
  refine T_store M c _ .qc _ ?_
  exact h

/-- What storing a head's scale leaves. -/
def stepQs (h : ℕ) (hh : h < 4) (sc : FVec F S1x1 .f32) (s : St F) : St F :=
  upd .qs (put (s .qs) (rQs h hh) (shapeCast S1x1x1x128 (rowOf sc) shapeCasts_S1x128_S1x1x1x128 : FVec F S1x1x1x128 .f32)) s

theorem T_stepQs (hd : ℕ) (hh : hd < 4) {sc : FVec F S1x1 .f32} {hl1 hx1 hm1} (h : T M c (stepQs hd hh sc s) k Q) :
    T M c s (.op (.load (M .qs) (rQs hd hh).toLoadRect hl1) fun _ =>
      .op (.store (M .qs) (rQs hd hh) (shapeCast S1x1x1x128 (rowOf sc) shapeCasts_S1x128_S1x1x1x128 : FVec F S1x1x1x128 .f32) Finset.univ hx1 hm1) fun _ => k) Q := by
  refine T_load M c s .qs _ ?_
  refine T_store M c s .qs _ ?_
  exact h

end Cert.KernelIdeal.Hand
end
-- ==== Proof.Tile.lean ====
/- The kernel body's attention part, one tile at a time: two query heads' 256 rows against the keys up to their end.
   The tile's program is written with the tile's numbers variables, over the key blocks by recursion, with the state
   it leaves. -/
module

public import proofs.«01_k».proof.Proof.Segs

@[expose] public section

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F] [Named F]

/-! ## The rectangles -/

/-- A block of 128 keys of the score scratch (and of the weight scratch). -/
def rBlk (n : ℕ) (hn : n < 16) : Rect S2048x512 :=
  Rect.unit (s := S2048x512) ![128 * n, 0] S128x512.size (by intro a; fin_cases a <;> simp <;> omega)
/-- The keys up to the tile's end, -/
def rKs (i : ℕ) (hi : i < 8) : Rect S2048x128 :=
  Rect.unit (s := S2048x128) ![0, 0] (Shape.mk 2 ![256 * (i + 1), 128]).size (by intro a; fin_cases a <;> simp <;> omega)
def rVs (i : ℕ) (hi : i < 8) : Rect S128x2048 :=
  Rect.unit (s := S128x2048) ![0, 0] (Shape.mk 2 ![128, 256 * (i + 1)]).size (by intro a; fin_cases a <;> simp <;> omega)
def rPs (i : ℕ) (hi : i < 8) : Rect S2048x512 :=
  Rect.unit (s := S2048x512) ![0, 0] (Shape.mk 2 ![256 * (i + 1), 512]).size (by intro a; fin_cases a <;> simp <;> omega)
/-- a head's 256 query rows, and where their results go. -/
def rQt (h i : ℕ) (hh : h < 4) (hi : i < 8) : Rect S4x2048x128 :=
  Rect.unit (s := S4x2048x128) ![h, 256 * i, 0] S1x256x128.size (by intro a; fin_cases a <;> simp <;> omega)
def rO (h i : ℕ) (hh : h < 4) (hi : i < 8) : Rect S1x2048x512 :=
  Rect.unit (s := S1x2048x512) ![0, 256 * i, 128 * h] S1x256x128.size (by intro a; fin_cases a <;> simp <;> omega)

/-! ## The values -/

/-- The keys no later than the queries, at a block's offset from the tile's first query. -/
def maskAt (off : BitVec 32) : IVec S128x512 1 :=
  concatenate S128x512 1 [
    ⟨S128x256, (cmpi .sle (addi (iota .tc S128x256 32 [0] iota_S128x256_d0_w32 : IVec S128x256 32) (broadcast S128x256 off)) (iota .tc S128x256 32 [1] iota_S128x256_d1_w32 : IVec S128x256 32) : IVec S128x256 1)⟩,
    ⟨S128x256, (cmpi .sle (addi (iota .tc S128x256 32 [0] iota_S128x256_d0_w32 : IVec S128x256 32) (broadcast S128x256 off)) (iota .tc S128x256 32 [1] iota_S128x256_d1_w32 : IVec S128x256 32) : IVec S128x256 1)⟩]
    concatenates_S128x256_S128x256_S128x512_d1

/-- A key block's score factors along the tile's columns. -/
def fac4 (x : FVec F S1x128 .f32) : FVec F S1x512 .f32 :=
  concatenate S1x512 1 [⟨S1x128, x⟩, ⟨S1x128, x⟩, ⟨S1x128, x⟩, ⟨S1x128, x⟩] concatenates_S1x128_S1x128_S1x128_S1x128_S1x512_d1

theorem slices_blk (i n : ℕ) (hn : n < 2 * (i + 1)) : (Shape.mk 2 ![256 * (i + 1), 512]).Slices ![128 * n, 0] S128x512 :=
  ⟨rfl, by intro a; fin_cases a <;> simp [Shape.size] <;> omega⟩

/-- A block's scaled scores, before the mask. -/
def rawScore (i n : ℕ) (hn : n < 2 * (i + 1)) (d : FVec F (Shape.mk 2 ![256 * (i + 1), 512]) .f32) (x : FVec F S1x128 .f32) (qrow : FVec F S1x512 .f32) :
    FVec F S128x512 .f32 :=
  mulf (extractStridedSlice S128x512 ![128 * n, 0] d (slices_blk i n hn)) (broadcastTo S128x512 (mulf (fac4 x) qrow) broadcasts_S1x512_S128x512)

/-- A block's scores: the last two blocks of a tile are masked. -/
def scoreOf (i n : ℕ) (hn : n < 2 * (i + 1)) (d : FVec F (Shape.mk 2 ![256 * (i + 1), 512]) .f32) (x : FVec F S1x128 .f32) (qrow : FVec F S1x512 .f32) :
    FVec F S128x512 .f32 :=
  match decide (n < 2 * i), decide (n = 2 * i) with
  | true, _ => rawScore i n hn d x qrow
  | false, true => select (maskAt 0#32) (rawScore i n hn d x qrow) (broadcast S128x512 (Scalar.ofBits .f32 0xFF800000#32 : F .f32))
  | false, false => select (maskAt 128#32) (rawScore i n hn d x qrow) (broadcast S128x512 (Scalar.ofBits .f32 0xFF800000#32 : F .f32))

/-- The running maximum over eight interleaved rows, -/
def maxStep (m : FVec F S8x512 .f32) (t : FVec F S128x512 .f32) : FVec F S8x512 .f32 :=
  maximumf m (multiReduction .maximumf [0] S8x512 (shapeCast S16x8x512 t shapeCasts_S128x512_S16x8x512 : FVec F S16x8x512 .f32) 0xFF800000#32 reduces_S16x8x512_S8x512 (.inl rfl) rfl : FVec F S8x512 .f32)
/-- its end, -/
def maxEnd (m : FVec F S8x512 .f32) : FVec F S1x512 .f32 :=
  shapeCast S1x512 (multiReduction .maximumf [0] S512 m 0xFF800000#32 reduces_S8x512_S512 (.inl rfl) rfl : FVec F S512 .f32) shapeCasts_S512_S1x512
/-- a block's weights, -/
def expOf (t : FVec F S128x512 .f32) (m : FVec F S1x512 .f32) : FVec F S128x512 .f32 :=
  exp2 (subf t (broadcastTo S128x512 m broadcasts_S1x512_S128x512) : FVec F S128x512 .f32)
/-- their running sum and its end. -/
def sumStep (l : FVec F S8x512 .f32) (t : FVec F S128x512 .f32) : FVec F S8x512 .f32 :=
  addf l (multiReduction .add [0] S8x512 (shapeCast S16x8x512 t shapeCasts_S128x512_S16x8x512 : FVec F S16x8x512 .f32) 0x00000000#32 reduces_S16x8x512_S8x512 (.inl rfl) rfl : FVec F S8x512 .f32)
def sumEnd (l : FVec F S8x512 .f32) : FVec F S1x512 .f32 :=
  shapeCast S1x512 (multiReduction .add [0] S512 l 0x00000000#32 reduces_S8x512_S512 (.inl rfl) rfl : FVec F S512 .f32) shapeCasts_S512_S1x512

/-- The two heads' query codes, one after the other. -/
def qtOf (a b : FVec F S1x256x128 .fp8e4m3) : FVec F S512x128 .fp8e4m3 :=
  concatenate S512x128 0 [⟨S256x128, (shapeCast S256x128 a shapeCasts_S1x256x128_S256x128 : FVec F S256x128 .fp8e4m3)⟩,
    ⟨S256x128, (shapeCast S256x128 b shapeCasts_S1x256x128_S256x128 : FVec F S256x128 .fp8e4m3)⟩] concatenates_S256x128_S256x128_S512x128_d0

/-- The products of the keys with the queries. -/
def dotsOf (i : ℕ) (kk : FVec F (Shape.mk 2 ![256 * (i + 1), 128]) .fp8e4m3) (qt : FVec F S512x128 .fp8e4m3) : FVec F (Shape.mk 2 ![256 * (i + 1), 512]) .f32 :=
  matmul (DotDims.transposedRhs (256 * (i + 1)) 128 512) none kk qt (constant (Shape.mk 2 ![256 * (i + 1), 512]) .f32 0x00000000#32)

/-- The weighted values over the weights' sum, rounded, feature by query. -/
def outOf (i : ℕ) (vv : FVec F (Shape.mk 2 ![128, 256 * (i + 1)]) .bf16) (pp : FVec F (Shape.mk 2 ![256 * (i + 1), 512]) .fp8e4m3) (l : FVec F S1x512 .f32) : FVec F S128x512 .bf16 :=
  truncf .bf16 (divf (matmul (DotDims.plain 128 (256 * (i + 1)) 512) none vv pp (constant S128x512 .f32 0x00000000#32))
    (broadcastTo S128x512 l broadcasts_S1x512_S128x512) : FVec F S128x512 .f32) bitsLt_bf16_f32

/-- One head's half of it, query by feature. -/
def outA (o : FVec F S128x512 .bf16) : FVec F S1x256x128 .bf16 :=
  shapeCast S1x256x128 (transpose S256x128 [1, 0] (extractStridedSlice S128x256 ![0, 0] o slices_S128x512_o0_0_S128x256 : FVec F S128x256 .bf16)
    transposes_S128x256_p1_0_S256x128 : FVec F S256x128 .bf16) shapeCasts_S256x128_S1x256x128
def outB (o : FVec F S128x512 .bf16) : FVec F S1x256x128 .bf16 :=
  shapeCast S1x256x128 (transpose S256x128 [1, 0] (extractStridedSlice S128x256 ![0, 256] o slices_S128x512_o0_256_S128x256 : FVec F S128x256 .bf16)
    transposes_S128x256_p1_0_S256x128 : FVec F S256x128 .bf16) shapeCasts_S256x128_S1x256x128

/-! ## The states -/

variable (i : ℕ) (hi : i < 8) (d : FVec F (Shape.mk 2 ![256 * (i + 1), 512]) .f32) (qrow : FVec F S1x512 .f32) (s : St F)

/-- Once the first `n` blocks' scores are stored. -/
def scoreSt : (n : ℕ) → n ≤ 2 * (i + 1) → St F
  | 0, _ => s
  | n + 1, hn => upd .sc (put (scoreSt n (by omega) .sc) (rBlk n (by omega))
      (shapeCast S128x512 (scoreOf i n hn d (get (scoreSt n (by omega) .fk) (rFk n (by omega))) qrow) shapeCasts_S128x512_S128x512 : FVec F S128x512 .f32)) (scoreSt n (by omega))

def maxAt : (n : ℕ) → n ≤ 2 * (i + 1) → FVec F S8x512 .f32
  | 0, _ => broadcast S8x512 (Scalar.ofBits .f32 0xFF800000#32 : F .f32)
  | n + 1, hn => maxStep (maxAt n (by omega)) (scoreOf i n hn d (get (scoreSt i hi d qrow s n (by omega) .fk) (rFk n (by omega))) qrow)

variable (m : FVec F S1x512 .f32)

/-- Once the first `n` blocks' weights are stored. -/
def expSt : (n : ℕ) → n ≤ 2 * (i + 1) → St F
  | 0, _ => s
  | n + 1, hn => upd .p8 (put (expSt n (by omega) .p8) (rBlk n (by omega))
      (shapeCast S128x512 (truncf .fp8e4m3 (expOf (get (expSt n (by omega) .sc) (rBlk n (by omega))) m) bitsLt_fp8e4m3_f32 : FVec F S128x512 .fp8e4m3) shapeCasts_S128x512_S128x512 : FVec F S128x512 .fp8e4m3)) (expSt n (by omega))

def sumAt : (n : ℕ) → n ≤ 2 * (i + 1) → FVec F S8x512 .f32
  | 0, _ => broadcast S8x512 (Scalar.ofBits .f32 0x00000000#32 : F .f32)
  | n + 1, hn => sumStep (sumAt n (by omega)) (expOf (get (expSt i hi s m n (by omega) .sc) (rBlk n (by omega))) m)

/-- A tile's products at a state. -/
def dotsAt (h : ℕ) (hh : h + 1 < 4) : FVec F (Shape.mk 2 ![256 * (i + 1), 512]) .f32 :=
  dotsOf i (get (s .k8) (rKs i hi)) (qtOf (get (s .q8) (rQt h i (by omega) hi)) (get (s .q8) (rQt (h + 1) i hh hi)))

/-- The state once a tile's scores are stored, -/
def tileSt1 (h : ℕ) (hh : h + 1 < 4) : St F := scoreSt i hi (dotsAt i hi s h hh) qrow s (2 * (i + 1)) le_rfl
def tileMax (h : ℕ) (hh : h + 1 < 4) : FVec F S1x512 .f32 := maxEnd (maxAt i hi (dotsAt i hi s h hh) qrow s (2 * (i + 1)) le_rfl)
/-- once its weights are, -/
def tileSt2 (h : ℕ) (hh : h + 1 < 4) : St F := expSt i hi (tileSt1 i hi qrow s h hh) (tileMax i hi qrow s h hh) (2 * (i + 1)) le_rfl
def tileSum (h : ℕ) (hh : h + 1 < 4) : FVec F S1x512 .f32 := sumEnd (sumAt i hi (tileSt1 i hi qrow s h hh) (tileMax i hi qrow s h hh) (2 * (i + 1)) le_rfl)
def tileOut (h : ℕ) (hh : h + 1 < 4) : FVec F S128x512 .bf16 :=
  outOf i (get (tileSt2 i hi qrow s h hh .vt) (rVs i hi)) (get (tileSt2 i hi qrow s h hh .p8) (rPs i hi)) (tileSum i hi qrow s h hh)
/-- and once its results are. -/
def tileSt (h : ℕ) (hh : h + 1 < 4) : St F :=
  upd .o (put (upd .o (put (tileSt2 i hi qrow s h hh .o) (rO h i (by omega) hi) (outA (tileOut i hi qrow s h hh))) (tileSt2 i hi qrow s h hh) .o) (rO (h + 1) i hh hi) (outB (tileOut i hi qrow s h hh)))
    (upd .o (put (tileSt2 i hi qrow s h hh .o) (rO h i (by omega) hi) (outA (tileOut i hi qrow s h hh))) (tileSt2 i hi qrow s h hh))

/-! ## The programs -/

variable (M : Mems) (hM : ∀ n, (M n).IsWhole)

include hM in
theorem stBlk (n : ℕ) (hn : n < 16) : ((M .p8).access (rBlk n hn)).Stores Finset.univ :=
  View.stores_vmem h_S128x512 ((hM .p8).storeExact_slice rfl _ (.inr ⟨by decide, rfl, .inl ⟨Dvd.intro_left (32 * n) (by show 32 * n * 4 = 128 * n; omega), by show 4 ∣ 128; decide⟩⟩)) (fun _ => rfl)

include hM in
theorem stO (h i : ℕ) (hh : h < 4) (hi : i < 8) : ((M .o).access (rO h i hh hi)).Stores Finset.univ :=
  View.stores_vmem h_S1x256x128 ((hM .o).storeExact_slice rfl _ (.inr ⟨by decide, rfl, .inl ⟨Dvd.intro_left (128 * i) (by show 128 * i * 2 = 256 * i; omega), by show 2 ∣ 256; decide⟩⟩)) (fun _ => rfl)

theorem pos_mk2 (a b : ℕ) (ha : 0 < a) (hb : 0 < b) : 0 < (Shape.mk 2 ![a, b]).numel := by
  simp only [Shape.numel, Fin.prod_univ_two, Matrix.cons_val_zero, Matrix.cons_val_one]
  exact Nat.mul_pos ha hb

def scoreP : (n : ℕ) → n ≤ 2 * (i + 1) → (FVec F S8x512 .f32 → Pr F) → Pr F
  | 0, _, k => k (broadcast S8x512 (Scalar.ofBits .f32 0xFF800000#32 : F .f32))
  | n + 1, hn, k => scoreP n (by omega) fun m =>
      .op (.load (M .fk) (rFk n (by omega)).toLoadRect (View.loadsAt_vmem h_S1x128)) fun (x : FVec F S1x128 .f32) =>
      .op (.load (M .sc) (rBlk n (by omega)).toLoadRect (View.loadsAt_vmem h_S128x512)) fun _ =>
      .op (.store (M .sc) (rBlk n (by omega)) (shapeCast S128x512 (scoreOf i n hn d x qrow) shapeCasts_S128x512_S128x512 : FVec F S128x512 .f32) Finset.univ
        (View.stores_vmem_bits_univ h_S128x512 rfl) (.inl rfl)) fun _ =>
      k (maxStep m (scoreOf i n hn d x qrow))

def expP : (n : ℕ) → n ≤ 2 * (i + 1) → (FVec F S8x512 .f32 → Pr F) → Pr F
  | 0, _, k => k (broadcast S8x512 (Scalar.ofBits .f32 0x00000000#32 : F .f32))
  | n + 1, hn, k => expP n (by omega) fun l =>
      .op (.load (M .sc) (rBlk n (by omega)).toLoadRect (View.loadsAt_vmem h_S128x512)) fun (x : FVec F S128x512 .f32) =>
      .op (.load (M .p8) (rBlk n (by omega)).toLoadRect (View.loadsAt_vmem h_S128x512)) fun _ =>
      .op (.store (M .p8) (rBlk n (by omega)) (shapeCast S128x512 (truncf .fp8e4m3 (expOf x m) bitsLt_fp8e4m3_f32 : FVec F S128x512 .fp8e4m3) shapeCasts_S128x512_S128x512 : FVec F S128x512 .fp8e4m3) Finset.univ
        (stBlk M hM n (by omega)) (.inl rfl)) fun _ =>
      k (sumStep l (expOf x m))

def tileP (h : ℕ) (hh : h + 1 < 4) (k : Pr F) : Pr F :=
  .op (.load (M .q8) (rQt h i (by omega) hi).toLoadRect (View.loadsAt_vmem h_S1x256x128)) fun (qa : FVec F S1x256x128 .fp8e4m3) =>
  .op (.load (M .q8) (rQt (h + 1) i hh hi).toLoadRect (View.loadsAt_vmem h_S1x256x128)) fun (qb : FVec F S1x256x128 .fp8e4m3) =>
  .op (.load (M .k8) (rKs i hi).toLoadRect (View.loadsAt_vmem (pos_mk2 (256 * (i + 1)) 128 (by omega) (by decide)))) fun (kk : FVec F (Shape.mk 2 ![256 * (i + 1), 128]) .fp8e4m3) =>
  scoreP i hi (dotsOf i kk (qtOf qa qb)) qrow M (2 * (i + 1)) le_rfl fun m8 =>
  expP i hi (maxEnd m8) M hM (2 * (i + 1)) le_rfl fun l8 =>
  .op (.load (M .vt) (rVs i hi).toLoadRect (View.loadsAt_vmem (pos_mk2 128 (256 * (i + 1)) (by decide) (by omega)))) fun (vv : FVec F (Shape.mk 2 ![128, 256 * (i + 1)]) .bf16) =>
  .op (.load (M .p8) (rPs i hi).toLoadRect (View.loadsAt_vmem (pos_mk2 (256 * (i + 1)) 512 (by omega) (by decide)))) fun (pp : FVec F (Shape.mk 2 ![256 * (i + 1), 512]) .fp8e4m3) =>
  .op (.load (M .o) (rO h i (by omega) hi).toLoadRect (View.loadsAt_vmem h_S1x256x128)) fun _ =>
  .op (.store (M .o) (rO h i (by omega) hi) (outA (outOf i vv pp (sumEnd l8))) Finset.univ (stO M hM h i (by omega) hi) (.inl rfl)) fun _ =>
  .op (.load (M .o) (rO (h + 1) i hh hi).toLoadRect (View.loadsAt_vmem h_S1x256x128)) fun _ =>
  .op (.store (M .o) (rO (h + 1) i hh hi) (outB (outOf i vv pp (sumEnd l8))) Finset.univ (stO M hM (h + 1) i hh hi) (.inl rfl)) fun _ =>
  k

variable (c : Dev nD) {Q : St F → Prop}

theorem T_scoreP (n : ℕ) (hn : n ≤ 2 * (i + 1)) (k : FVec F S8x512 .f32 → Pr F)
    (h : T M c (scoreSt i hi d qrow s n hn) (k (maxAt i hi d qrow s n hn)) Q) : T M c s (scoreP i hi d qrow M n hn k) Q := by
  induction n generalizing k with
  | zero => exact h
  | succ n ih =>
    unfold scoreP
    refine ih (by omega) _ ?_
    refine T_load M c _ .fk _ ?_
    refine T_load M c _ .sc _ ?_
    refine T_store M c _ .sc _ ?_
    exact h

theorem T_expP (n : ℕ) (hn : n ≤ 2 * (i + 1)) (k : FVec F S8x512 .f32 → Pr F)
    (h : T M c (expSt i hi s m n hn) (k (sumAt i hi s m n hn)) Q) : T M c s (expP i hi m M hM n hn k) Q := by
  induction n generalizing k with
  | zero => exact h
  | succ n ih =>
    unfold expP
    refine ih (by omega) _ ?_
    refine T_load M c _ .sc _ ?_
    refine T_load M c _ .p8 _ ?_
    refine T_store M c _ .p8 _ ?_
    exact h

theorem T_tile (h : ℕ) (hh : h + 1 < 4) {qrow : FVec F S1x512 .f32} {k : Pr F} (H : T M c (tileSt i hi qrow s h hh) k Q) :
    T M c s (tileP i hi qrow M hM h hh k) Q := by
  unfold tileP
  refine T_load M c _ .q8 _ ?_
  refine T_load M c _ .q8 _ ?_
  refine T_load M c _ .k8 _ ?_
  refine T_scoreP (Q := Q) i hi _ qrow s M c _ le_rfl _ ?_
  refine T_expP (Q := Q) i hi _ _ M hM c _ le_rfl _ ?_
  refine T_load M c _ .vt _ ?_
  refine T_load M c _ .p8 _ ?_
  refine T_load M c _ .o _ ?_
  refine T_store M c _ .o _ ?_
  refine T_load M c _ .o _ ?_
  refine T_store M c _ .o _ ?_
  exact H

end Cert.KernelIdeal.Hand
end
-- ==== Proof.Body.lean ====
/- The printed kernel body takes its memrefs from any state to `endSt` of it: the blocks of keys and values, the query
   heads, and the attention tiles, in order. -/
module

public import proofs.«01_k».proof.Proof.Tile

@[expose] public section
noncomputable section
namespace Cert.KernelIdeal.Hand

open Idealize.ShloMosaic Idealize.ShloMosaic.TcCoe
open Idealize.SL Idealize.SL.Sem
open Cert.KernelIdeal Cert.KernelIdeal.Gen
variable {F : FTy → Type} [FloatOps F] [Named F]

/-- The state once the first `n` blocks of keys and values are done. -/
def kvSt (s : St F) : (n : ℕ) → n ≤ 16 → St F
  | 0, _ => s
  | n + 1, hn => stepV n (by omega) (stepK n (by omega) (kvSt s n (by omega)))

/-- The elementwise largest magnitude of a head's first `n` blocks. -/
def accAt (s : St F) (h : ℕ) (hh : h < 4) : (n : ℕ) → n ≤ 16 → FVec F S128x128 .f32
  | 0, _ => broadcast S128x128 (Scalar.ofBits .f32 0x00000000#32 : F .f32)
  | n + 1, hn => maximumf (accAt s h hh n (by omega)) (absf (wide (get (s .x) (rX h n hh (by omega)))))

/-- A head's exponent field. -/
def fieldQ (s : St F) (h : ℕ) (hh : h < 4) : IVec S1x1 32 := fieldOf (amaxOf (accAt s h hh 16 le_rfl))

/-- The state once a head's first `n` blocks of codes are stored. -/
def codesSt (inv : FVec F S1x1 .f32) (s : St F) (h : ℕ) (hh : h < 4) : (n : ℕ) → n ≤ 16 → St F
  | 0, _ => s
  | n + 1, hn => stepQ h n hh (by omega) inv (codesSt inv s h hh n (by omega))

/-- The state once the first `n` query heads are done. -/
def qSt (s : St F) : (n : ℕ) → n ≤ 4 → St F
  | 0, _ => kvSt s 16 le_rfl
  | n + 1, hn => stepQs n (by omega) (scaleOf (fieldQ (qSt s n (by omega)) n (by omega)))
      (codesSt (invOf (fieldQ (qSt s n (by omega)) n (by omega))) (qSt s n (by omega)) n (by omega) 16 le_rfl)

/-- A head's scale along the query rows of a tile, -/
def qscale (s : St F) (h : ℕ) (hh : h < 4) : FVec F S1x256 .f32 := row256 (scaleOf (fieldQ (qSt s h (by omega)) h hh))
/-- and a pair of heads'. -/
def qrow (s : St F) (h : ℕ) (hh : h + 1 < 4) : FVec F S1x512 .f32 :=
  concatenate S1x512 1 [⟨S1x256, qscale s h (by omega)⟩, ⟨S1x256, qscale s (h + 1) hh⟩] concatenates_S1x256_S1x256_S1x512_d1

/-- The state once the first `n` tiles of a pair of heads are done. -/
def pairSt (s : St F) (row : FVec F S1x512 .f32) (h : ℕ) (hh : h + 1 < 4) : (n : ℕ) → n ≤ 8 → St F
  | 0, _ => s
  | n + 1, hn => tileSt n (by omega) row (pairSt s row h hh n (by omega)) h hh

/-- The state the body leaves. -/
def endSt (s : St F) : St F :=
  pairSt (pairSt (qSt s 4 le_rfl) (qrow s 0 (by decide)) 0 (by decide) 8 le_rfl) (qrow s 2 (by decide)) 2 (by decide) 8 le_rfl

/-- The printed body on the memrefs. -/
abbrev bodyOn (M : Mems) (hM : ∀ n, (M n).IsWhole) (i : grid0.Coords) : Pr F :=
  cc0_fp8_gqa_attention i (M .x) (hM .x) (M .k) (hM .k) (M .v) (hM .v) (M .o) (hM .o) (M .qc) (hM .qc) (M .kc) (hM .kc)
    (M .vc) (hM .vc) (M .qs) (hM .qs) (M .ks) (hM .ks) (M .vs) (hM .vs) (M .q8) (hM .q8) (M .k8) (hM .k8) (M .vt) (hM .vt)
    (M .sc) (hM .sc) (M .p8) (hM .p8) (M .fk) (hM .fk)

set_option maxHeartbeats 40000000 in
theorem body_T (M : Mems) (hM : ∀ n, (M n).IsWhole) (i : grid0.Coords) (c : Dev nD) (s : St F) (Q : St F → Prop) (hQ : Q (endSt s)) :
    T M c s (bodyOn M hM i) Q := by
  refine T_stepK M c _ 0 (by decide) ?_
  refine T_stepV M c _ 0 (by decide) ?_
  refine T_stepK M c _ 1 (by decide) ?_
  refine T_stepV M c _ 1 (by decide) ?_
  refine T_stepK M c _ 2 (by decide) ?_
  refine T_stepV M c _ 2 (by decide) ?_
  refine T_stepK M c _ 3 (by decide) ?_
  refine T_stepV M c _ 3 (by decide) ?_
  refine T_stepK M c _ 4 (by decide) ?_
  refine T_stepV M c _ 4 (by decide) ?_
  refine T_stepK M c _ 5 (by decide) ?_
  refine T_stepV M c _ 5 (by decide) ?_
  refine T_stepK M c _ 6 (by decide) ?_
  refine T_stepV M c _ 6 (by decide) ?_
  refine T_stepK M c _ 7 (by decide) ?_
  refine T_stepV M c _ 7 (by decide) ?_
  refine T_stepK M c _ 8 (by decide) ?_
  refine T_stepV M c _ 8 (by decide) ?_
  refine T_stepK M c _ 9 (by decide) ?_
  refine T_stepV M c _ 9 (by decide) ?_
  refine T_stepK M c _ 10 (by decide) ?_
  refine T_stepV M c _ 10 (by decide) ?_
  refine T_stepK M c _ 11 (by decide) ?_
  refine T_stepV M c _ 11 (by decide) ?_
  refine T_stepK M c _ 12 (by decide) ?_
  refine T_stepV M c _ 12 (by decide) ?_
  refine T_stepK M c _ 13 (by decide) ?_
  refine T_stepV M c _ 13 (by decide) ?_
  refine T_stepK M c _ 14 (by decide) ?_
  refine T_stepV M c _ 14 (by decide) ?_
  refine T_stepK M c _ 15 (by decide) ?_
  refine T_stepV M c _ 15 (by decide) ?_
  show T M c (kvSt s 16 le_rfl) _ Q
  iterate 16 refine T_load M c _ .x _ ?_
  refine T_stepQ M c _ 0 0 (by decide) (by decide) ?_
  refine T_stepQ M c _ 0 1 (by decide) (by decide) ?_
  refine T_stepQ M c _ 0 2 (by decide) (by decide) ?_
  refine T_stepQ M c _ 0 3 (by decide) (by decide) ?_
  refine T_stepQ M c _ 0 4 (by decide) (by decide) ?_
  refine T_stepQ M c _ 0 5 (by decide) (by decide) ?_
  refine T_stepQ M c _ 0 6 (by decide) (by decide) ?_
  refine T_stepQ M c _ 0 7 (by decide) (by decide) ?_
  refine T_stepQ M c _ 0 8 (by decide) (by decide) ?_
  refine T_stepQ M c _ 0 9 (by decide) (by decide) ?_
  refine T_stepQ M c _ 0 10 (by decide) (by decide) ?_
  refine T_stepQ M c _ 0 11 (by decide) (by decide) ?_
  refine T_stepQ M c _ 0 12 (by decide) (by decide) ?_
  refine T_stepQ M c _ 0 13 (by decide) (by decide) ?_
  refine T_stepQ M c _ 0 14 (by decide) (by decide) ?_
  refine T_stepQ M c _ 0 15 (by decide) (by decide) ?_
  refine T_stepQs M c _ 0 (by decide) ?_
  show T M c (qSt s 1 (by decide)) _ Q
  iterate 16 refine T_load M c _ .x _ ?_
  refine T_stepQ M c _ 1 0 (by decide) (by decide) ?_
  refine T_stepQ M c _ 1 1 (by decide) (by decide) ?_
  refine T_stepQ M c _ 1 2 (by decide) (by decide) ?_
  refine T_stepQ M c _ 1 3 (by decide) (by decide) ?_
  refine T_stepQ M c _ 1 4 (by decide) (by decide) ?_
  refine T_stepQ M c _ 1 5 (by decide) (by decide) ?_
  refine T_stepQ M c _ 1 6 (by decide) (by decide) ?_
  refine T_stepQ M c _ 1 7 (by decide) (by decide) ?_
  refine T_stepQ M c _ 1 8 (by decide) (by decide) ?_
  refine T_stepQ M c _ 1 9 (by decide) (by decide) ?_
  refine T_stepQ M c _ 1 10 (by decide) (by decide) ?_
  refine T_stepQ M c _ 1 11 (by decide) (by decide) ?_
  refine T_stepQ M c _ 1 12 (by decide) (by decide) ?_
  refine T_stepQ M c _ 1 13 (by decide) (by decide) ?_
  refine T_stepQ M c _ 1 14 (by decide) (by decide) ?_
  refine T_stepQ M c _ 1 15 (by decide) (by decide) ?_
  refine T_stepQs M c _ 1 (by decide) ?_
  show T M c (qSt s 2 (by decide)) _ Q
  iterate 16 refine T_load M c _ .x _ ?_
  refine T_stepQ M c _ 2 0 (by decide) (by decide) ?_
  refine T_stepQ M c _ 2 1 (by decide) (by decide) ?_
  refine T_stepQ M c _ 2 2 (by decide) (by decide) ?_
  refine T_stepQ M c _ 2 3 (by decide) (by decide) ?_
  refine T_stepQ M c _ 2 4 (by decide) (by decide) ?_
  refine T_stepQ M c _ 2 5 (by decide) (by decide) ?_
  refine T_stepQ M c _ 2 6 (by decide) (by decide) ?_
  refine T_stepQ M c _ 2 7 (by decide) (by decide) ?_
  refine T_stepQ M c _ 2 8 (by decide) (by decide) ?_
  refine T_stepQ M c _ 2 9 (by decide) (by decide) ?_
  refine T_stepQ M c _ 2 10 (by decide) (by decide) ?_
  refine T_stepQ M c _ 2 11 (by decide) (by decide) ?_
  refine T_stepQ M c _ 2 12 (by decide) (by decide) ?_
  refine T_stepQ M c _ 2 13 (by decide) (by decide) ?_
  refine T_stepQ M c _ 2 14 (by decide) (by decide) ?_
  refine T_stepQ M c _ 2 15 (by decide) (by decide) ?_
  refine T_stepQs M c _ 2 (by decide) ?_
  show T M c (qSt s 3 (by decide)) _ Q
  iterate 16 refine T_load M c _ .x _ ?_
  refine T_stepQ M c _ 3 0 (by decide) (by decide) ?_
  refine T_stepQ M c _ 3 1 (by decide) (by decide) ?_
  refine T_stepQ M c _ 3 2 (by decide) (by decide) ?_
  refine T_stepQ M c _ 3 3 (by decide) (by decide) ?_
  refine T_stepQ M c _ 3 4 (by decide) (by decide) ?_
  refine T_stepQ M c _ 3 5 (by decide) (by decide) ?_
  refine T_stepQ M c _ 3 6 (by decide) (by decide) ?_
  refine T_stepQ M c _ 3 7 (by decide) (by decide) ?_
  refine T_stepQ M c _ 3 8 (by decide) (by decide) ?_
  refine T_stepQ M c _ 3 9 (by decide) (by decide) ?_
  refine T_stepQ M c _ 3 10 (by decide) (by decide) ?_
  refine T_stepQ M c _ 3 11 (by decide) (by decide) ?_
  refine T_stepQ M c _ 3 12 (by decide) (by decide) ?_
  refine T_stepQ M c _ 3 13 (by decide) (by decide) ?_
  refine T_stepQ M c _ 3 14 (by decide) (by decide) ?_
  refine T_stepQ M c _ 3 15 (by decide) (by decide) ?_
  refine T_stepQs M c _ 3 (by decide) ?_
  show T M c (qSt s 4 (by decide)) _ Q
  refine T_tile 0 (by decide) _ M hM c 0 (by decide) ?_
  refine T_tile 1 (by decide) _ M hM c 0 (by decide) ?_
  refine T_tile 2 (by decide) _ M hM c 0 (by decide) ?_
  refine T_tile 3 (by decide) _ M hM c 0 (by decide) ?_
  refine T_tile 4 (by decide) _ M hM c 0 (by decide) ?_
  refine T_tile 5 (by decide) _ M hM c 0 (by decide) ?_
  refine T_tile 6 (by decide) _ M hM c 0 (by decide) ?_
  refine T_tile 7 (by decide) _ M hM c 0 (by decide) ?_
  show T M c (pairSt (qSt s 4 le_rfl) (qrow s 0 (by decide)) 0 (by decide) 8 le_rfl) _ Q
  refine T_tile 0 (by decide) _ M hM c 2 (by decide) ?_
  refine T_tile 1 (by decide) _ M hM c 2 (by decide) ?_
  refine T_tile 2 (by decide) _ M hM c 2 (by decide) ?_
  refine T_tile 3 (by decide) _ M hM c 2 (by decide) ?_
  refine T_tile 4 (by decide) _ M hM c 2 (by decide) ?_
  refine T_tile 5 (by decide) _ M hM c 2 (by decide) ?_
  refine T_tile 6 (by decide) _ M hM c 2 (by decide) ?_
  refine T_tile 7 (by decide) _ M hM c 2 (by decide) ?_
  show T M c (endSt s) _ Q
  exact T_ret M c _ hQ

end Cert.KernelIdeal.Hand
end
-- ==== Proof.Launch.lean ====
/- The kernel's run: every grid point's body takes its blocks to `endSt` of a state that holds the inputs' blocks, and
   every execution ends with the arrays assembled from such blocks and the arguments as they were. -/
module

public import proofs.«01_k».proof.Proof.Body
public import Idealize.ShloMosaic.Lib.Pipeline.DatRel
public import Idealize.ShloMosaic.Lib.Pipeline.ArrRel

@[expose] public section
set_option maxRecDepth 16384
noncomputable section
namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)
open Cert.KernelIdeal Cert.KernelIdeal.Gen
variable {F : FTy → Type} [FloatOps F] [Named F]

local notation "𝕄" => MT nD τ sig Unit (Elt F) ℕ (UR sig nD τ) ℕ

/-! ## The body leaves its inputs -/

/-- The memrefs that the body reads only. -/
def isIn : Mn → Prop
  | .x => True | .k => True | .v => True | _ => False

variable {n : Mn} (hn : isIn n)
include hn

theorem stepK_in (j hj) (s : St F) : stepK j hj s n = s n := by
  cases n <;> first | exact hn.elim | (simp [stepK, upd_ne])
theorem stepV_in (j hj) (s : St F) : stepV j hj s n = s n := by
  cases n <;> first | exact hn.elim | (simp [stepV, upd_ne])
theorem stepQ_in (h j hh hj inv) (s : St F) : stepQ h j hh hj inv s n = s n := by
  cases n <;> first | exact hn.elim | (simp [stepQ, upd_ne])
theorem stepQs_in (h hh sc) (s : St F) : stepQs h hh sc s n = s n := by
  cases n <;> first | exact hn.elim | (simp [stepQs, upd_ne])
theorem kvSt_in (s : St F) (j hj) : kvSt s j hj n = s n := by
  induction j with
  | zero => rfl
  | succ j ih => rw [kvSt, stepV_in hn, stepK_in hn, ih]
theorem codesSt_in (inv) (s : St F) (h hh j hj) : codesSt inv s h hh j hj n = s n := by
  induction j with
  | zero => rfl
  | succ j ih => rw [codesSt, stepQ_in hn, ih]
theorem qSt_in (s : St F) (j hj) : qSt s j hj n = s n := by
  induction j with
  | zero => rw [qSt, kvSt_in hn]
  | succ j ih => rw [qSt, stepQs_in hn, codesSt_in hn, ih]
theorem scoreSt_in (i hi d row) (s : St F) (j hj) : scoreSt i hi d row s j hj n = s n := by
  induction j with
  | zero => rfl
  | succ j ih => rw [scoreSt, upd_ne _ _ (by rintro rfl; exact hn), ih]
theorem expSt_in (i hi) (s : St F) (mm j hj) : expSt i hi s mm j hj n = s n := by
  induction j with
  | zero => rfl
  | succ j ih => rw [expSt, upd_ne _ _ (by rintro rfl; exact hn), ih]
theorem tileSt_in (i hi row) (s : St F) (h hh) : tileSt i hi row s h hh n = s n := by
  rw [tileSt, upd_ne _ _ (by rintro rfl; exact hn), upd_ne _ _ (by rintro rfl; exact hn), tileSt2, expSt_in hn, tileSt1, scoreSt_in hn]
theorem pairSt_in (s : St F) (row h hh j hj) : pairSt s row h hh j hj n = s n := by
  induction j with
  | zero => rfl
  | succ j ih => rw [pairSt, tileSt_in hn, ih]
theorem endSt_in (s : St F) : endSt s n = s n := by
  rw [endSt, pairSt_in hn, pairSt_in hn, qSt_in hn]
omit hn

/-! ## The memrefs at a grid point -/

/-- The memrefs that the pipeline passes at a point. -/
abbrev memsAt (t : Fin cfg0.N) : Mems
  | .x => win0_0.stage (cfg0.slots t 0) | .k => win0_1.stage (cfg0.slots t 1) | .v => win0_2.stage (cfg0.slots t 2)
  | .o => win0_3.stage (cfg0.slots t 3) | .qc => win0_4.stage (cfg0.slots t 4) | .kc => win0_5.stage (cfg0.slots t 5)
  | .vc => win0_6.stage (cfg0.slots t 6) | .qs => win0_7.stage (cfg0.slots t 7) | .ks => win0_8.stage (cfg0.slots t 8)
  | .vs => win0_9.stage (cfg0.slots t 9)
  | .q8 => Memref.whole cc0_scratch0 | .k8 => Memref.whole cc0_scratch1 | .vt => Memref.whole cc0_scratch2
  | .sc => Memref.whole cc0_scratch3 | .p8 => Memref.whole cc0_scratch4 | .fk => Memref.whole cc0_scratch5

theorem memsAt_whole (t : Fin cfg0.N) : ∀ n, (memsAt t n).IsWhole
  | .x => hstage0_0 ((cfg0.slots t 0).cast nbuf0_0) | .k => hstage0_1 ((cfg0.slots t 1).cast nbuf0_1)
  | .v => hstage0_2 ((cfg0.slots t 2).cast nbuf0_2) | .o => hstage0_3 ((cfg0.slots t 3).cast nbuf0_3)
  | .qc => hstage0_4 ((cfg0.slots t 4).cast nbuf0_4) | .kc => hstage0_5 ((cfg0.slots t 5).cast nbuf0_5)
  | .vc => hstage0_6 ((cfg0.slots t 6).cast nbuf0_6) | .qs => hstage0_7 ((cfg0.slots t 7).cast nbuf0_7)
  | .ks => hstage0_8 ((cfg0.slots t 8).cast nbuf0_8) | .vs => hstage0_9 ((cfg0.slots t 9).cast nbuf0_9)
  | .q8 => Memref.isWhole_whole _ | .k8 => Memref.isWhole_whole _ | .vt => Memref.isWhole_whole _ | .sc => Memref.isWhole_whole _
  | .p8 => Memref.isWhole_whole _ | .fk => Memref.isWhole_whole _

theorem own_eq (M : Mems) (c : Dev nD) (s : St F) : own M c s = iprop(
    owns (c : Thread nD τ) (M .x) fullShare (s .x) ∗ owns (c : Thread nD τ) (M .k) fullShare (s .k) ∗ owns (c : Thread nD τ) (M .v) fullShare (s .v)
    ∗ owns (c : Thread nD τ) (M .o) fullShare (s .o) ∗ owns (c : Thread nD τ) (M .qc) fullShare (s .qc) ∗ owns (c : Thread nD τ) (M .kc) fullShare (s .kc)
    ∗ owns (c : Thread nD τ) (M .vc) fullShare (s .vc) ∗ owns (c : Thread nD τ) (M .qs) fullShare (s .qs) ∗ owns (c : Thread nD τ) (M .ks) fullShare (s .ks)
    ∗ owns (c : Thread nD τ) (M .vs) fullShare (s .vs) ∗ owns (c : Thread nD τ) (M .q8) fullShare (s .q8) ∗ owns (c : Thread nD τ) (M .k8) fullShare (s .k8)
    ∗ owns (c : Thread nD τ) (M .vt) fullShare (s .vt) ∗ owns (c : Thread nD τ) (M .sc) fullShare (s .sc) ∗ owns (c : Thread nD τ) (M .p8) fullShare (s .p8)
    ∗ owns (c : Thread nD τ) (M .fk) fullShare (s .fk)) :=
  bigSep_univ_eq_bigSepL [Mn.x, .k, .v, .o, .qc, .kc, .vc, .qs, .ks, .vs, .q8, .k8, .vt, .sc, .p8, .fk] (by decide) (by decide) _

variable (m : (ℓ : Loc nD τ sig) → Buf (Elt F) ℓ) (ρ : Dev nD → PrngReg)

/-! ## The proof data -/

/-- The results' windows: what the body leaves there is stated by a relation. -/
def outs0 : Fin 10 → Bool := fun w => w.val == 3 || w.val == 4 || w.val == 5 || w.val == 6 || w.val == 7 || w.val == 8 || w.val == 9

/-- The states whose inputs are the point's blocks. -/
def Holds (c : Dev nD) (t : Fin cfg0.N) (s : St F) : Prop := s .x = iblk m c 0 t ∧ s .k = iblk m c 1 t ∧ s .v = iblk m c 2 t

/-- What the body leaves in each result's window: what `endSt` says, of some state with the inputs' blocks. -/
def Left (c : Dev nD) (w : Fin cfg0.W) (t : Fin cfg0.N) : ((cfg0.win w).block.Idx → Elt F (cfg0.win w).elt) → Prop :=
  match w with
  | ⟨3, _⟩ => fun X => ∃ s : St F, Holds m c t s ∧ X = endSt s .o
  | ⟨4, _⟩ => fun X => ∃ s : St F, Holds m c t s ∧ X = endSt s .qc
  | ⟨5, _⟩ => fun X => ∃ s : St F, Holds m c t s ∧ X = endSt s .kc
  | ⟨6, _⟩ => fun X => ∃ s : St F, Holds m c t s ∧ X = endSt s .vc
  | ⟨7, _⟩ => fun X => ∃ s : St F, Holds m c t s ∧ X = endSt s .qs
  | ⟨8, _⟩ => fun X => ∃ s : St F, Holds m c t s ∧ X = endSt s .ks
  | ⟨9, _⟩ => fun X => ∃ s : St F, Holds m c t s ∧ X = endSt s .vs
  | _ => fun _ => True

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-! ## The body obligation -/

/-- What the body is called with at a point, -/
def bodyPre (c : Dev nD) (t : Fin cfg0.N) : sProp 𝕄 :=
  iprop(Pipeline.ΦA spec0 c ∗ (dats m 0 c).owesAt () t.castSucc
    ∗ (∃ d, owns (c : Thread nD τ) (memsAt t .x) fullShare ((dats m 0 c).before 0 t d))
    ∗ (∃ d, owns (c : Thread nD τ) (memsAt t .k) fullShare ((dats m 0 c).before 1 t d))
    ∗ (∃ d, owns (c : Thread nD τ) (memsAt t .v) fullShare ((dats m 0 c).before 2 t d))
    ∗ (∃ d, owns (c : Thread nD τ) (memsAt t .o) fullShare d)
    ∗ (∃ d, owns (c : Thread nD τ) (memsAt t .qc) fullShare d)
    ∗ (∃ d, owns (c : Thread nD τ) (memsAt t .kc) fullShare d)
    ∗ (∃ d, owns (c : Thread nD τ) (memsAt t .vc) fullShare d)
    ∗ (∃ d, owns (c : Thread nD τ) (memsAt t .qs) fullShare d)
    ∗ (∃ d, owns (c : Thread nD τ) (memsAt t .ks) fullShare d)
    ∗ (∃ d, owns (c : Thread nD τ) (memsAt t .vs) fullShare d))

/-- and what it returns. -/
def bodyPost (c : Dev nD) (t : Fin cfg0.N) : sProp 𝕄 :=
  iprop(Pipeline.ΦA spec0 c ∗ (dats m 0 c).owesAt () t.castSucc
    ∗ owns (c : Thread nD τ) (memsAt t .x) fullShare (iblk m c 0 t)
    ∗ owns (c : Thread nD τ) (memsAt t .k) fullShare (iblk m c 1 t)
    ∗ owns (c : Thread nD τ) (memsAt t .v) fullShare (iblk m c 2 t)
    ∗ (∃ X, ⌜Left m c 3 t X⌝ ∗ owns (c : Thread nD τ) (memsAt t .o) fullShare X)
    ∗ (∃ X, ⌜Left m c 4 t X⌝ ∗ owns (c : Thread nD τ) (memsAt t .qc) fullShare X)
    ∗ (∃ X, ⌜Left m c 5 t X⌝ ∗ owns (c : Thread nD τ) (memsAt t .kc) fullShare X)
    ∗ (∃ X, ⌜Left m c 6 t X⌝ ∗ owns (c : Thread nD τ) (memsAt t .vc) fullShare X)
    ∗ (∃ X, ⌜Left m c 7 t X⌝ ∗ owns (c : Thread nD τ) (memsAt t .qs) fullShare X)
    ∗ (∃ X, ⌜Left m c 8 t X⌝ ∗ owns (c : Thread nD τ) (memsAt t .ks) fullShare X)
    ∗ (∃ X, ⌜Left m c 9 t X⌝ ∗ owns (c : Thread nD τ) (memsAt t .vs) fullShare X))

/-- A state, memref by memref. -/
def mkSt (x : Vec F (shp .x) (ety .x)) (k : Vec F (shp .k) (ety .k)) (v : Vec F (shp .v) (ety .v)) (o : Vec F (shp .o) (ety .o)) (qc : Vec F (shp .qc) (ety .qc))
    (kc : Vec F (shp .kc) (ety .kc)) (vc : Vec F (shp .vc) (ety .vc)) (qs : Vec F (shp .qs) (ety .qs)) (ks : Vec F (shp .ks) (ety .ks)) (vs : Vec F (shp .vs) (ety .vs))
    (q8 : Vec F (shp .q8) (ety .q8)) (k8 : Vec F (shp .k8) (ety .k8)) (vt : Vec F (shp .vt) (ety .vt)) (sc : Vec F (shp .sc) (ety .sc)) (p8 : Vec F (shp .p8) (ety .p8))
    (fk : Vec F (shp .fk) (ety .fk)) : St F
  | .x => x | .k => k | .v => v | .o => o | .qc => qc | .kc => kc | .vc => vc | .qs => qs | .ks => ks | .vs => vs
  | .q8 => q8 | .k8 => k8 | .vt => vt | .sc => sc | .p8 => p8 | .fk => fk

/-- What the body neither reads nor writes. -/
def rest (c : Dev nD) (t : Fin cfg0.N) : sProp 𝕄 := iprop((∃ r, prngReg c r) ∗ (dats m 0 c).owesAt () t.castSucc)

set_option maxHeartbeats 1600000 in
theorem pre_own (c : Dev nD) (t : Fin cfg0.N) : bodyPre m c t ⊢ iprop(∃ s, ⌜Holds m c t s⌝ ∗ own (memsAt t) c s ∗ rest m c t) := by
  unfold bodyPre rest
  simp only [before0_0, before0_1, before0_2]
  rw [PhiA0_eq]
  iintro ⟨⟨⟨⟨%e0, HS0⟩, ⟨%e1, HS1⟩, ⟨%e2, HS2⟩, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iexists (mkSt (iblk m c 0 t) (iblk m c 1 t) (iblk m c 2 t) d3 d4 d5 d6 d7 d8 d9 e0 e1 e2 e3 e4 e5)
  rw [own_eq]
  isplitr
  · ipureintro; exact ⟨rfl, rfl, rfl⟩
  isplitr [Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iexact HS5
  · isplitl [Hg]; · iexact Hg
    iexact Ho

set_option maxHeartbeats 1600000 in
theorem own_post' (c : Dev nD) (t : Fin cfg0.N) (s : St F) (hs : Holds m c t s) :
    iprop(own (memsAt t) c (endSt s) ∗ rest m c t) ⊢ bodyPost m c t := by
  unfold bodyPost rest
  rw [PhiA0_eq, own_eq, endSt_in (n := .x) trivial, endSt_in (n := .k) trivial, endSt_in (n := .v) trivial, hs.1, hs.2.1, hs.2.2]
  iintro ⟨⟨H0, H1, H2, H3, H4, H5, H6, H7, H8, H9, HS0, HS1, HS2, HS3, HS4, HS5⟩, Hg, Ho⟩
  isplitl [HS0 HS1 HS2 HS3 HS4 HS5 Hg]
  · isplitl [HS0 HS1 HS2 HS3 HS4 HS5]
    · isplitl [HS0]
      · iexists _; iexact HS0
      isplitl [HS1]
      · iexists _; iexact HS1
      isplitl [HS2]
      · iexists _; iexact HS2
      isplitl [HS3]
      · iexists _; iexact HS3
      isplitl [HS4]
      · iexists _; iexact HS4
      iexists _; iexact HS5
    iexact Hg
  isplitl [Ho]; · iexact Ho
  isplitl [H0]; · iexact H0
  isplitl [H1]; · iexact H1
  isplitl [H2]; · iexact H2
  isplitl [H3]
  · iexists _; isplitr; swap; · iexact H3
    · ipureintro; exact ⟨s, hs, rfl⟩
  isplitl [H4]
  · iexists _; isplitr; swap; · iexact H4
    · ipureintro; exact ⟨s, hs, rfl⟩
  isplitl [H5]
  · iexists _; isplitr; swap; · iexact H5
    · ipureintro; exact ⟨s, hs, rfl⟩
  isplitl [H6]
  · iexists _; isplitr; swap; · iexact H6
    · ipureintro; exact ⟨s, hs, rfl⟩
  isplitl [H7]
  · iexists _; isplitr; swap; · iexact H7
    · ipureintro; exact ⟨s, hs, rfl⟩
  isplitl [H8]
  · iexists _; isplitr; swap; · iexact H8
    · ipureintro; exact ⟨s, hs, rfl⟩
  iexists _; isplitr; swap; · iexact H9
  ipureintro; exact ⟨s, hs, rfl⟩

theorem own_post (c : Dev nD) (t : Fin cfg0.N) (s : St F) (hs : Holds m c t s) :
    iprop((∃ s', ⌜s' = endSt s⌝ ∗ own (memsAt t) c s') ∗ rest m c t) ⊢ bodyPost m c t := by
  iintro ⟨⟨%s', %e, H⟩, HR⟩
  subst e
  iapply (own_post' m c t s hs)
  isplitl [H]; · iexact H
  iexact HR

theorem sound_body (c : Dev nD) (t : Fin cfg0.N) :
    bodyPre m c t ⊢ wp frame (wpE (defs₀ (F := F)) Variants.none c none) Set.univ (bodyOn (memsAt t) (memsAt_whole t) (grid0.coords t)) (fun _ => bodyPost m c t) := by
  refine BIBase.Entails.trans (pre_own m c t) ?_
  iintro ⟨%s, %hs, H⟩
  have hT : T (memsAt t) c s (bodyOn (memsAt t) (memsAt_whole t) (grid0.coords t)) (fun s' => s' = endSt s) :=
    body_T (memsAt t) (memsAt_whole t) (grid0.coords t) c s (fun s' => s' = endSt s) rfl
  iapply (BIBase.Entails.trans (BIBase.Entails.trans (sep_mono hT .rfl) (wp_frame_r frame _ _)) (wp_mono frame _ _ fun _ => own_post m c t s hs))
  iexact H

theorem defs₀_row (t : Fin cfg0.N) :
    defs₀ (F := F) .tc cfg0.body (cfg0.bodyArgs t (cfg0.slots t)) = bodyOn (memsAt t) (memsAt_whole t) (grid0.coords t) := by
  unfold defs₀; rw [Defs.onTc_tc]

theorem body_obligation (c : Dev nD) : BodyObligationRel (dats (F := F) m 0 c) (defs₀ (F := F)) Variants.none () Set.univ outs0 (Left m c) := fun t => by
  rw [bigSep_W0, bigSep_W0, defs₀_row]
  refine triple_restated (sound_body m c t) rfl ?_ fun _ => .rfl
  show iprop(Pipeline.ΦA spec0 c ∗ _ ∗ (∃ d, owns (c : Thread nD τ) (memsAt t .x) fullShare ((dats m 0 c).before 0 t d)) ∗ (∃ d, owns (c : Thread nD τ) (memsAt t .k) fullShare ((dats m 0 c).before 1 t d)) ∗ (∃ d, owns (c : Thread nD τ) (memsAt t .v) fullShare ((dats m 0 c).before 2 t d)) ∗ (∃ Y, _ ∗ owns _ _ _ Y) ∗ (∃ Y, _ ∗ owns _ _ _ Y) ∗ (∃ Y, _ ∗ owns _ _ _ Y) ∗ (∃ Y, _ ∗ owns _ _ _ Y) ∗ (∃ Y, _ ∗ owns _ _ _ Y) ∗ (∃ Y, _ ∗ owns _ _ _ Y) ∗ (∃ Y, _ ∗ owns _ _ _ Y)) ⊢ _
  unfold bodyPre
  iintro ⟨HΦ, Ho, H0, H1, H2, ⟨%d3, -, H3⟩, ⟨%d4, -, H4⟩, ⟨%d5, -, H5⟩, ⟨%d6, -, H6⟩, ⟨%d7, -, H7⟩, ⟨%d8, -, H8⟩, ⟨%d9, -, H9⟩⟩
  isplitl [HΦ]; · iexact HΦ
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iexists _; iexact H9

/-! ## The run -/

/-- The relational proof data of the run. -/
abbrev rdat (c : Dev nD) : Pipeline.RDat τ (Elt F) Unit ℕ (UR sig nD τ) ℕ (cfgs 0) c := (dats m 0 c).toRRel outs0 (Left m c)

set_option backward.isDefEq.respectTransparency.types false in
theorem run_main : θ_run defs (onTc (τ := τ) (main (F := F))) (s₀ m ρ) (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hin := fun _ => .rfl) (hout := fun _ => .rfl)

end Cert.KernelIdeal.Hand
end
-- ==== Proof.Quant.lean ====
/- The quantiser over the extended reals: the kernel's count of the powers of two above a value finds the exponent the
   reference writes with a logarithm, and both turn it into the same scale and the same inverse. -/
module

public import proofs.«01_k».proof.Proof.Segs
public import Idealize.ShloMosaic.PureOps.Ideal.Laws
public import Idealize.ShloMosaic.Lib.WordSum
public import Idealize.ShloMosaic.Lib.ValueIdx
public import Idealize.ShloMosaic.Lib.IdealHost
public import Mathlib.Analysis.SpecialFunctions.Log.Basic
public import Mathlib.Analysis.SpecialFunctions.Pow.Real

@[expose] public section

noncomputable section

namespace Cert.KernelIdeal.Hand

open Idealize.ShloMosaic Idealize.ShloMosaic.ValueIdx
open Cert.KernelIdeal Cert.KernelIdeal.Gen

/-! ## Powers of two by their bits -/

theorem field_bits : ∀ n : Fin 256, (((BitVec.ofNat 32 n.val) <<< 23).extractLsb' 23 8).toNat = n.val
    ∧ (((BitVec.ofNat 32 n.val) <<< 23).extractLsb' 0 23).toNat = 0 ∧ ((BitVec.ofNat 32 n.val) <<< 23).extractLsb' 31 1 = 0#1 := by
  decide +kernel

theorem ieee_pow (b : BitVec 32) (n : ℕ) (h1 : 1 ≤ n) (h2 : n < 255) (ha : (b.extractLsb' 23 8).toNat = n)
    (hb : (b.extractLsb' 0 23).toNat = 0) (hd : b.extractLsb' 31 1 = 0#1) :
    Ideal.ofBits .f32 b = (((2 : ℝ) ^ ((n : ℤ) - 127) : ℝ) : EReal) := by
  have hn : n ≠ 2 ^ 8 - 1 := by omega
  have hn0 : n ≠ 0 := by omega
  show Ideal.ieee 8 23 b = _
  unfold Ideal.ieee
  dsimp only
  rw [ha, hb, hd, if_neg hn, if_neg hn0]
  congr 1
  norm_num
  rw [show (8388608 : ℝ) = (2 : ℝ) ^ (23 : ℤ) by norm_num, ← zpow_add₀ (by norm_num)]
  congr 1; ring

theorem pow_bits (n : ℕ) (h1 : 1 ≤ n) (h2 : n < 255) :
    Ideal.ofBits .f32 ((BitVec.ofNat 32 n) <<< 23) = (((2 : ℝ) ^ ((n : ℤ) - 127) : ℝ) : EReal) :=
  have h := field_bits ⟨n, by omega⟩
  ieee_pow _ n h1 h2 h.1 h.2.1 h.2.2

theorem pow_bits_zero : Ideal.ofBits .f32 ((BitVec.ofNat 32 0) <<< 23) = 0 := by
  simp [Ideal.ofBits, Ideal.ieee]

theorem pow_bits_top : Ideal.ofBits .f32 ((BitVec.ofNat 32 255) <<< 23) = ⊤ := by
  simp [Ideal.ofBits, Ideal.ieee]

theorem tiny_bits : Ideal.ofBits .f32 0x00800000#32 = (((2 : ℝ) ^ (-126 : ℤ) : ℝ) : EReal) := by
  rw [ieee_pow _ 1 le_rfl (by norm_num) (by decide) (by decide) (by decide)]; norm_num

/-- The largest finite bf16. -/
theorem max_bits_le : ∃ r : ℝ, r < (2 : ℝ) ^ (128 : ℤ) ∧ Ideal.ofBits .f32 0x7F7F0000#32 = (r : EReal) := by
  refine ⟨_, ?_, by simp [Ideal.ofBits, Ideal.ieee, -EReal.coe_mul]; rfl⟩
  norm_num

/-- One over 448, rounded. -/
theorem inv448_bits : ∃ r : ℝ, 0 < r ∧ r < (2 : ℝ) ^ (-8 : ℤ) ∧ Ideal.ofBits .f32 0x3B124925#32 = (r : EReal) := by
  refine ⟨_, ?_, ?_, by simp [Ideal.ofBits, Ideal.ieee, -EReal.coe_mul]; rfl⟩ <;> norm_num

theorem two_bits : Ideal.ofBits .f32 0x40000000#32 = ((2 : ℝ) : EReal) := by
  simp [Ideal.ofBits, Ideal.ieee, -EReal.coe_mul]; norm_num

/-! ## The exponent -/

/-- How many of the 256 powers are above: those past the value's own. -/
theorem card_above (f : ℕ) (hf : f < 256) : ∑ n : Fin 256, (if f < n.val then 1 else 0) = 255 - f := by
  rw [Fin.sum_univ_eq_sum_range (fun n => if f < n then 1 else 0) 256, ← Finset.card_filter]
  rw [show (Finset.range 256).filter (fun n => f < n) = Finset.Ico (f + 1) 256 by ext n; simp; omega]
  simp

instance : Subsingleton S1x1.Idx := ⟨fun i j => by
  funext a; match a with | ⟨0, _⟩ => exact Subsingleton.elim (α := Fin 1) _ _ | ⟨1, _⟩ => exact Subsingleton.elim (α := Fin 1) _ _⟩
instance : Subsingleton S1.Idx := ⟨fun i j => by funext a; match a with | ⟨0, _⟩ => exact Subsingleton.elim (α := Fin 1) _ _⟩

theorem shli23 (w : BitVec 32) : IntOp.shli .vector w 23#32 = w <<< 23 := rfl

/-- The counted field is `f` when the powers above the value are those past `f`. -/
theorem fieldOf_eq (a : FVec Ideal S1x1 .f32) (x : EReal) (hx : ∀ i, a i * Ideal.ofBits .f32 0x3B124925#32 = x) (f : ℕ) (hf : f < 256)
    (h : ∀ n : Fin 256, x < Ideal.ofBits .f32 ((BitVec.ofNat 32 n.val) <<< 23) ↔ f < n.val) :
    fieldOf a = fun _ => BitVec.ofNat 32 f := by
  funext i
  unfold fieldOf
  have key : ∀ j, (multiReductionI .add [1] S1
    (select (cmpf .olt
        (broadcastTo S1x256 (mulf a (broadcast S1x1 (Scalar.ofBits .f32 0x3B124925#32 : Ideal .f32))) broadcasts_S1x1_S1x256 : FVec Ideal S1x256 .f32)
        (bitcastToFloat .f32 (shli (iota .tc S1x256 32 [1] iota_S1x256_d1_w32 : IVec S1x256 32) (broadcast S1x256 23#32)) : FVec Ideal S1x256 .f32))
      (broadcast S1x256 1#32) (broadcast S1x256 0#32) : IVec S1x256 32) 0#32 reduces_S1x256_S1 rfl : IVec S1 32) j = BitVec.ofNat 32 (255 - f) := by
    intro j
    have el : ∀ p : S1x256.Idx, (select (cmpf .olt
        (broadcastTo S1x256 (mulf a (broadcast S1x1 (Scalar.ofBits .f32 0x3B124925#32 : Ideal .f32))) broadcasts_S1x1_S1x256 : FVec Ideal S1x256 .f32)
        (bitcastToFloat .f32 (shli (iota .tc S1x256 32 [1] iota_S1x256_d1_w32 : IVec S1x256 32) (broadcast S1x256 23#32)) : FVec Ideal S1x256 .f32))
      (broadcast S1x256 1#32) (broadcast S1x256 0#32) : IVec S1x256 32) p = if f < (p 1).val then 1#32 else 0#32 := by
      intro p
      have e1 : (broadcastTo S1x256 (mulf a (broadcast S1x1 (Scalar.ofBits .f32 0x3B124925#32 : Ideal .f32))) broadcasts_S1x1_S1x256 : FVec Ideal S1x256 .f32) p = x := hx _
      have e2 : (bitcastToFloat .f32 (shli (iota .tc S1x256 32 [1] iota_S1x256_d1_w32 : IVec S1x256 32) (broadcast S1x256 23#32)) : FVec Ideal S1x256 .f32) p
          = Ideal.ofBits .f32 ((BitVec.ofNat 32 (p 1).val) <<< 23) := by
        have e3 : iota .tc S1x256 32 [1] iota_S1x256_d1_w32 p = BitVec.ofNat 32 (p 1).val :=
          congrArg (BitVec.ofNat 32) (by simp [List.foldl])
        exact congrArg (Ideal.ofBits .f32) ((congrArg (fun w => IntOp.shli .vector w 23#32) e3).trans (shli23 _))
      rw [select_apply, cmpf_apply, e1, e2, broadcast_apply, broadcast_apply]
      by_cases hp : f < (p 1).val
      · rw [if_pos hp]
        have hc : (FloatOps.cmpf CmpFPredicate.olt x (Ideal.ofBits .f32 ((BitVec.ofNat 32 (p 1).val) <<< 23)) : BitVec 1) = 1#1 := by
          show BitVec.ofBool (decide _) = _
          rw [decide_eq_true ((h (p 1)).2 hp)]; rfl
        rw [hc, select_one]
      · rw [if_neg hp]
        have hc : (FloatOps.cmpf CmpFPredicate.olt x (Ideal.ofBits .f32 ((BitVec.ofNat 32 (p 1).val) <<< 23)) : BitVec 1) = 0#1 := by
          show BitVec.ofBool (decide _) = _
          rw [decide_eq_false (fun h' => hp ((h (p 1)).1 h'))]; rfl
        rw [hc, select_zero]
    apply BitVec.eq_of_toNat_eq
    have hs : ∑ p ∈ Finset.univ.filter (fun p => reduces_S1x256_S1.drop p = j), (if f < (p 1).val then 1#32 else 0#32 : BitVec 32).toNat = 255 - f := by
      rw [Finset.filter_true_of_mem (fun p _ => Subsingleton.elim _ _)]
      rw [← card_above f hf]
      refine (sum_idx2 (n0 := 1) (n1 := 256) _).trans ?_
      rw [Fin.sum_univ_one]
      refine Finset.sum_congr rfl fun n _ => ?_
      show (if f < n.val then 1#32 else 0#32 : BitVec 32).toNat = _
      split <;> rfl
    refine (WordSum.toNat_multiReductionI_add _ _ rfl j ?_).trans ?_
    · rw [Finset.sum_congr rfl (fun p _ => congrArg BitVec.toNat (el p)), hs]; omega
    · rw [Finset.sum_congr rfl (fun p _ => congrArg BitVec.toNat (el p)), hs, BitVec.toNat_ofNat, Nat.mod_eq_of_lt (by omega)]
  show 255#32 - _ = _
  refine (congrArg (255#32 - ·) (key _)).trans ?_
  apply BitVec.eq_of_toNat_eq
  rw [BitVec.toNat_sub, BitVec.toNat_ofNat, BitVec.toNat_ofNat, BitVec.toNat_ofNat]
  omega

/-- The scale of a field below 254 and its inverse. -/
theorem scaleOf_eq (f : ℕ) (hf : f ≤ 246) (hf1 : 1 ≤ f) : scaleOf (F := Ideal) (fun _ => BitVec.ofNat 32 f) = fun _ => (((2 : ℝ) ^ ((f : ℤ) - 126) : ℝ) : EReal) := by
  funext i
  show Scalar.select (BitVec.ofBool (BitVec.ofNat 32 f == 0#32)) _ (Ideal.ofBits .f32 (IntOp.shli .vector (BitVec.ofNat 32 f + 1#32) 23#32)) = _
  have h0 : (BitVec.ofNat 32 f == 0#32) = false := by
    rw [beq_eq_false_iff_ne]; intro h; have := congrArg BitVec.toNat h; simp at this; omega
  rw [h0]
  show Ideal.ofBits .f32 (IntOp.shli .vector (BitVec.ofNat 32 f + 1#32) 23#32) = _
  have h1 : IntOp.shli .vector (BitVec.ofNat 32 f + 1#32) 23#32 = (BitVec.ofNat 32 (f + 1)) <<< 23 := by
    rw [BitVec.ofNat_add]; rfl
  rw [h1, pow_bits (f + 1) (by omega) (by omega)]
  congr 2; push_cast; ring

theorem invOf_eq (f : ℕ) (hf : f ≤ 246) (hf1 : 1 ≤ f) : invOf (F := Ideal) (fun _ => BitVec.ofNat 32 f) = fun _ => (((2 : ℝ) ^ (126 - (f : ℤ)) : ℝ) : EReal) := by
  funext i
  show Scalar.select (BitVec.ofBool (BitVec.ofNat 32 f == 0#32)) _ (Ideal.ofBits .f32 (IntOp.shli .vector (253#32 - BitVec.ofNat 32 f) 23#32)) = _
  have h0 : (BitVec.ofNat 32 f == 0#32) = false := by
    rw [beq_eq_false_iff_ne]; intro h; have := congrArg BitVec.toNat h; simp at this; omega
  rw [h0]
  show Ideal.ofBits .f32 (IntOp.shli .vector (253#32 - BitVec.ofNat 32 f) 23#32) = _
  have h1 : IntOp.shli .vector (253#32 - BitVec.ofNat 32 f) 23#32 = (BitVec.ofNat 32 (253 - f)) <<< 23 := by
    have : 253#32 - BitVec.ofNat 32 f = BitVec.ofNat 32 (253 - f) := by
      apply BitVec.eq_of_toNat_eq
      rw [BitVec.toNat_sub, BitVec.toNat_ofNat, BitVec.toNat_ofNat, BitVec.toNat_ofNat]
      omega
    rw [this]; rfl
  rw [h1, pow_bits (253 - f) (by omega) (by omega)]
  congr 2; omega

theorem sel_zero (x y : EReal) : Scalar.select (BitVec.ofBool (BitVec.ofNat 32 0 == 0#32)) x y = x := rfl

theorem scaleOf_zero (i : S1x1.Idx) : scaleOf (F := Ideal) (fun _ => BitVec.ofNat 32 0) i = (1 : EReal) := by
  unfold scaleOf
  rw [select_apply, broadcast_apply]
  refine (sel_zero _ _).trans ?_
  exact (Ideal.ofBits_def (φ := .f32) 0x3F800000#32).trans Ideal.ofBits_one_f32
theorem invOf_zero (i : S1x1.Idx) : invOf (F := Ideal) (fun _ => BitVec.ofNat 32 0) i = (1 : EReal) := by
  unfold invOf
  rw [select_apply, broadcast_apply]
  refine (sel_zero _ _).trans ?_
  exact (Ideal.ofBits_def (φ := .f32) 0x3F800000#32).trans Ideal.ofBits_one_f32

/-! ## The reference's exponent -/

/-- The reference's exponent of a scaled magnitude: 0 for one below the normal range, else one past its binade. -/
def expRef (x : EReal) : EReal :=
  Scalar.select (FloatOps.cmpf (F := Ideal) (φ := .f32) .olt x (Ideal.ofBits .f32 0x00800000#32)) (Ideal.ofBits .f32 0x00000000#32)
    (Ideal.liftRound Int.floor (Ideal.div (Ideal.log x) (Ideal.log (Ideal.ofBits .f32 0x40000000#32))) + Ideal.ofBits .f32 0x3F800000#32)

theorem log_two : Ideal.log (Ideal.ofBits .f32 0x40000000#32) = ((Real.log 2 : ℝ) : EReal) := by
  rw [two_bits]; show (if (2 : ℝ) ≤ 0 then ⊥ else (Real.log 2 : EReal)) = _; rw [if_neg (by norm_num)]

theorem exp_two (n : ℤ) : Ideal.exp ((n : ℝ) * Real.log 2 : ℝ) = (((2 : ℝ) ^ n : ℝ) : EReal) := by
  show ((Real.exp _ : ℝ) : EReal) = _
  congr 1
  rw [mul_comm, Real.exp_mul, Real.exp_log (by norm_num), Real.rpow_intCast]

/-- Both sides of the quantiser's scale: from a magnitude up to the largest bf16, one positive real and its inverse. -/
theorem quant (a : EReal) (h0 : 0 ≤ a) (h1 : a ≤ Ideal.ofBits .f32 0x7F7F0000#32) : ∃ r : ℝ, 0 < r ∧
    (∀ A : FVec Ideal S1x1 .f32, (∀ i, A i = a) → ∀ i, scaleOf (F := Ideal) (fieldOf A) i = (r : EReal) ∧ invOf (F := Ideal) (fieldOf A) i = ((r⁻¹ : ℝ) : EReal)) ∧
    Ideal.exp (expRef (a * Ideal.ofBits .f32 0x3B124925#32) * Ideal.log (Ideal.ofBits .f32 0x40000000#32)) = (r : EReal) ∧
    Ideal.exp (-(expRef (a * Ideal.ofBits .f32 0x3B124925#32)) * Ideal.log (Ideal.ofBits .f32 0x40000000#32)) = ((r⁻¹ : ℝ) : EReal) := by
  obtain ⟨M, hM, eM⟩ := max_bits_le
  obtain ⟨k, hk, hk8, ek⟩ := inv448_bits
  rw [eM] at h1
  obtain ⟨a, rfl⟩ : ∃ q : ℝ, a = (q : EReal) := by
    induction a using EReal.rec with
    | bot => exact absurd h0 (by simp)
    | top => exact absurd h1 (by simp)
    | coe q => exact ⟨q, rfl⟩
  have h0' : 0 ≤ a := EReal.coe_nonneg.1 h0
  have h1' : a ≤ M := EReal.coe_le_coe_iff.1 h1
  have hxe : (a : EReal) * Ideal.ofBits .f32 0x3B124925#32 = ((a * k : ℝ) : EReal) := by rw [ek, EReal.coe_mul]
  have hx0 : 0 ≤ a * k := by positivity
  have hxM : a * k < (2 : ℝ) ^ (120 : ℤ) := by
    calc a * k ≤ M * k := by gcongr
      _ < (2 : ℝ) ^ (128 : ℤ) * (2 : ℝ) ^ (-8 : ℤ) := mul_lt_mul'' hM hk8 (h0'.trans h1') hk.le
      _ = _ := by norm_num
  rw [hxe, log_two]
  generalize a * k = x at hx0 hxM hxe
  by_cases ht : x < (2 : ℝ) ^ (-126 : ℤ)
  · refine ⟨1, one_pos, fun A hA i => ?_, ?_, ?_⟩
    · have hf : fieldOf A = fun _ => BitVec.ofNat 32 0 := by
        refine fieldOf_eq A (x : EReal) (fun i => by rw [hA, hxe]) 0 (by norm_num) fun n => ?_
        by_cases hn0 : n.val = 0
        · rw [hn0, pow_bits_zero]; constructor
          · intro h; exact absurd (EReal.coe_neg'.1 h) (not_lt.2 hx0)
          · intro h; omega
        · by_cases hn : n.val = 255
          · rw [hn, pow_bits_top]; exact ⟨fun _ => by norm_num, fun _ => EReal.coe_lt_top _⟩
          · rw [pow_bits n.val (by omega) (by have := n.isLt; omega), EReal.coe_lt_coe_iff]
            refine ⟨fun _ => by omega, fun _ => lt_of_lt_of_le ht ?_⟩
            exact zpow_le_zpow_right₀ (by norm_num) (by omega)
      rw [hf, scaleOf_zero, invOf_zero]; simp
    all_goals
      have he : expRef (x : EReal) = 0 := by
        unfold expRef
        have hc : (FloatOps.cmpf (F := Ideal) (φ := .f32) .olt (x : EReal) (Ideal.ofBits .f32 0x00800000#32) : BitVec 1) = 1#1 := by
          show BitVec.ofBool (decide _) = _
          rw [decide_eq_true (by rw [tiny_bits]; exact EReal.coe_lt_coe_iff.2 ht)]; rfl
        rw [hc, select_one, Ideal.ofBits_zero_f32]
      rw [he]
      have e0 : Ideal.exp 0 = 1 := by simpa using exp_two 0
      simp [e0]
  · have ht' : (2 : ℝ) ^ (-126 : ℤ) ≤ x := not_lt.1 ht
    have hxp : 0 < x := lt_of_lt_of_le (by positivity) ht'
    set e : ℤ := ⌊Real.log x / Real.log 2⌋ with he
    have hl2 : 0 < Real.log 2 := Real.log_pos (by norm_num)
    have hlo : (2 : ℝ) ^ e ≤ x := by
      rw [← Real.log_le_log_iff (by positivity) hxp, Real.log_zpow, ← le_div_iff₀ hl2]; exact Int.floor_le _
    have hhi : x < (2 : ℝ) ^ (e + 1) := by
      rw [← Real.log_lt_log_iff hxp (by positivity), Real.log_zpow, ← div_lt_iff₀ hl2]; push_cast; exact Int.lt_floor_add_one _
    have he1 : -126 ≤ e := by
      have := (zpow_lt_zpow_iff_right₀ (by norm_num : (1 : ℝ) < 2)).1 (lt_of_le_of_lt ht' hhi); omega
    have he2 : e < 120 := (zpow_lt_zpow_iff_right₀ (by norm_num : (1 : ℝ) < 2)).1 (lt_of_le_of_lt hlo hxM)
    obtain ⟨f, hf⟩ : ∃ f : ℕ, (f : ℤ) = e + 127 := ⟨(e + 127).toNat, by omega⟩
    have hE : expRef (x : EReal) = (((e + 1 : ℤ) : ℝ) : EReal) := by
      unfold expRef
      have hc : (FloatOps.cmpf (F := Ideal) (φ := .f32) .olt (x : EReal) (Ideal.ofBits .f32 0x00800000#32) : BitVec 1) = 0#1 := by
        show BitVec.ofBool (decide _) = _
        rw [decide_eq_false (by rw [tiny_bits]; exact fun h => ht (EReal.coe_lt_coe_iff.1 h))]; rfl
      rw [hc, select_zero, log_two, Ideal.ofBits_one_f32]
      have : Ideal.log (x : EReal) = ((Real.log x : ℝ) : EReal) := by
        show (if x ≤ 0 then ⊥ else (Real.log x : EReal)) = _; rw [if_neg (not_le.2 hxp)]
      rw [this, Ideal.div_coe (ne_of_gt hl2), ← EReal.coe_mul]
      show (((⌊Real.log x * (1 / Real.log 2)⌋ : ℤ) : ℝ) : EReal) + 1 = _
      rw [mul_one_div, ← he]; push_cast; rfl
    refine ⟨(2 : ℝ) ^ (e + 1), by positivity, fun A hA i => ?_, ?_, ?_⟩
    · have hF : fieldOf A = fun _ => BitVec.ofNat 32 f := by
        refine fieldOf_eq A (x : EReal) (fun i => by rw [hA, hxe]) f (by omega) fun n => ?_
        by_cases hn0 : n.val = 0
        · rw [hn0, pow_bits_zero]; constructor
          · intro h; exact absurd (EReal.coe_neg'.1 h) (not_lt.2 hx0)
          · intro h; omega
        · by_cases hn : n.val = 255
          · rw [hn, pow_bits_top]; exact ⟨fun _ => by omega, fun _ => EReal.coe_lt_top _⟩
          · rw [pow_bits n.val (by omega) (by have := n.isLt; omega), EReal.coe_lt_coe_iff]
            constructor
            · intro h
              have := (zpow_lt_zpow_iff_right₀ (by norm_num : (1 : ℝ) < 2)).1 (lt_of_le_of_lt hlo h); omega
            · intro h
              exact lt_of_lt_of_le hhi (zpow_le_zpow_right₀ (by norm_num) (by omega))
      rw [hF, scaleOf_eq f (by omega) (by omega), invOf_eq f (by omega) (by omega), ← zpow_neg]
      have t1 : (f : ℤ) - 126 = e + 1 := by omega
      have t2 : 126 - (f : ℤ) = -(e + 1) := by omega
      rw [t1, t2]; exact ⟨rfl, rfl⟩
    · rw [hE, ← EReal.coe_mul]; exact exp_two _
    · rw [hE, ← EReal.coe_neg, ← EReal.coe_mul, ← zpow_neg, ← Int.cast_neg]; exact exp_two _

end Cert.KernelIdeal.Hand
end
-- ==== Proof.Spec.lean ====
/- What the quantiser's results are, as functions of the argument arrays: the largest magnitude of a block, its scale
   and inverse, and a clipped code. -/
module

public import proofs.«01_k».proof.Proof.Quant

@[expose] public section

noncomputable section

namespace Cert.KernelIdeal.Hand

open Idealize.ShloMosaic

/-- The index of a key array of three coordinates. -/
abbrev KArr := (⟨3, ![8, 2048, 1024]⟩ : Shape).Idx → EReal
abbrev QArr := (⟨3, ![8, 2048, 4096]⟩ : Shape).Idx → EReal

abbrev i3 {a b c : ℕ} (x : Fin a) (y : Fin b) (z : Fin c) : (⟨3, ![a, b, c]⟩ : Shape).Idx :=
  ValueIdx.ix3 x y z

/-- Token `r` of block `j`, -/
def tok (j : Fin 16) (r : Fin 128) : Fin 2048 := ⟨j.val * 128 + r.val, by omega⟩
/-- feature `d` of key head `g`, -/
def kcol (g : Fin 8) (d : Fin 128) : Fin 1024 := ⟨g.val * 128 + d.val, by omega⟩
/-- and of query head `h`. -/
def qcol (h : Fin 32) (d : Fin 128) : Fin 4096 := ⟨h.val * 128 + d.val, by omega⟩

def ab (x : EReal) : EReal := FloatOps.absf (F := Ideal) (φ := .f32) x

/-- A key block's largest magnitude, -/
def kAmax (A : KArr) (b : Fin 8) (j : Fin 16) (g : Fin 8) : EReal := ⨆ r : Fin 128, ⨆ d : Fin 128, ab (A (i3 b (tok j r) (kcol g d)))
/-- and a query head's. -/
def qAmax (A : QArr) (b : Fin 8) (h : Fin 32) : EReal := ⨆ t : Fin 2048, ⨆ d : Fin 128, ab (A (i3 b t (qcol h d)))

/-- The scale and the inverse of a largest magnitude. -/
def scE (a : EReal) : EReal := Ideal.exp (expRef (a * Ideal.ofBits .f32 0x3B124925#32) * Ideal.log (Ideal.ofBits .f32 0x40000000#32))
def ivE (a : EReal) : EReal := Ideal.exp (-(expRef (a * Ideal.ofBits .f32 0x3B124925#32)) * Ideal.log (Ideal.ofBits .f32 0x40000000#32))

/-- A clipped product. -/
def cl (y i : EReal) : EReal := min (Ideal.ofBits .f32 0x43E00000#32) (max (Ideal.ofBits .f32 0xC3E00000#32) (y * i))

theorem bits_bot : Ideal.ofBits .f32 0xFF800000#32 = ⊥ := by
  simp [Ideal.ofBits, Ideal.ieee]

/-- A maximum from minus infinity is the supremum. -/
theorem fold_max_iSup {ι : Type} (S : Finset ι) (f : ι → EReal) : S.fold max (Ideal.ofBits .f32 0xFF800000#32) f = ⨆ i ∈ S, f i := by
  rw [bits_bot]
  refine eq_of_forall_ge_iff fun c => ?_
  rw [Finset.fold_max_le]; simp

theorem expRef_eq (x : EReal) : expRef x = if x < Ideal.ofBits .f32 0x00800000#32 then 0 else
    Ideal.liftRound Int.floor (Ideal.div (Ideal.log x) (Ideal.log (Ideal.ofBits .f32 0x40000000#32))) + 1 := by
  unfold expRef
  by_cases h : x < Ideal.ofBits .f32 0x00800000#32
  · have hc : (FloatOps.cmpf (F := Ideal) (φ := .f32) .olt x (Ideal.ofBits .f32 0x00800000#32) : BitVec 1) = 1#1 := by
      show BitVec.ofBool (decide _) = _
      rw [decide_eq_true h]; rfl
    rw [hc, ValueIdx.select_one, if_pos h, Ideal.ofBits_zero_f32]
  · have hc : (FloatOps.cmpf (F := Ideal) (φ := .f32) .olt x (Ideal.ofBits .f32 0x00800000#32) : BitVec 1) = 0#1 := by
      show BitVec.ofBool (decide _) = _
      rw [decide_eq_false h]; rfl
    rw [hc, ValueIdx.select_zero, if_neg h, Ideal.ofBits_one_f32]

end Cert.KernelIdeal.Hand
end
-- ==== Proof.Blocks.lean ====
/- Stores of blocks read at an index. -/
module

public import proofs.«01_k».proof.Proof.Launch
public import proofs.«01_k».proof.Proof.Spec
public import Idealize.ShloMosaic.Lib.Pointwise
public import Idealize.ShloMosaic.Lib.Tactic.CleanTypes

@[expose] public section
noncomputable section
namespace Cert.KernelIdeal.Hand
open Idealize.ShloMosaic Idealize.ShloMosaic.TcCoe
open Cert.KernelIdeal Cert.KernelIdeal.Gen
variable {F : FTy → Type} [FloatOps F] [Named F] {e : EltTy}

theorem emb_unit {s : Shape} (off size : Fin s.rank → ℕ) (inb) (j : (Rect.unit off size inb).shape.Idx) (a : Fin s.rank) :
    ((Rect.unit off size inb).emb j a).val = off a + (j a).val := ValueKit.rect_emb_unit_val off size inb j a

theorem rKV_val (n : ℕ) (hn : n < 16) (x : (rKV n hn).shape.Idx) (a : Fin 3) : ((rKV n hn).emb x a).val = (![0, 128 * n, 0] : Fin 3 → ℕ) a + (x a).val := emb_unit _ _ _ x a
theorem rK8_val (n : ℕ) (hn : n < 16) (x : (rK8 n hn).shape.Idx) (a : Fin 2) : ((rK8 n hn).emb x a).val = (![128 * n, 0] : Fin 2 → ℕ) a + (x a).val := emb_unit _ _ _ x a
theorem rVt_val (n : ℕ) (hn : n < 16) (x : (rVt n hn).shape.Idx) (a : Fin 2) : ((rVt n hn).emb x a).val = (![0, 128 * n] : Fin 2 → ℕ) a + (x a).val := emb_unit _ _ _ x a
theorem rFk_val (n : ℕ) (hn : n < 16) (x : (rFk n hn).shape.Idx) (a : Fin 2) : ((rFk n hn).emb x a).val = (![n, 0] : Fin 2 → ℕ) a + (x a).val := emb_unit _ _ _ x a
theorem rSc_val (n : ℕ) (hn : n < 16) (x : (rSc n hn).shape.Idx) (a : Fin 4) : ((rSc n hn).emb x a).val = (![0, 0, n, 0] : Fin 4 → ℕ) a + (x a).val := emb_unit _ _ _ x a
theorem rQs_val (n : ℕ) (hn : n < 4) (x : (rQs n hn).shape.Idx) (a : Fin 4) : ((rQs n hn).emb x a).val = (![0, 0, n, 0] : Fin 4 → ℕ) a + (x a).val := emb_unit _ _ _ x a
theorem rX_val (h n : ℕ) (hh : h < 4) (hn : n < 16) (x : (rX h n hh hn).shape.Idx) (a : Fin 3) : ((rX h n hh hn).emb x a).val = (![0, 128 * n, 128 * h] : Fin 3 → ℕ) a + (x a).val := emb_unit _ _ _ x a
theorem rQ8_val (h n : ℕ) (hh : h < 4) (hn : n < 16) (x : (rQ8 h n hh hn).shape.Idx) (a : Fin 3) : ((rQ8 h n hh hn).emb x a).val = (![h, 128 * n, 0] : Fin 3 → ℕ) a + (x a).val := emb_unit _ _ _ x a

theorem put_rKV (X : Vec F S1x2048x128 e) (n : ℕ) (hn : n < 16) (w : Vec F S1x128x128 e) (t : Fin 2048) (d : Fin 128) :
    put X (rKV n hn) w (ix3 (0 : Fin 1) t d) = if t.val / 128 = n then w (ix3 (0 : Fin 1) ⟨t.val % 128, by omega⟩ d) else X (ix3 (0 : Fin 1) t d) := by
  by_cases h : t.val / 128 = n
  · rw [if_pos h, show (ix3 (0 : Fin 1) t d : S1x2048x128.Idx) = (rKV n hn).emb (ix3 (0 : Fin 1) ⟨t.val % 128, by omega⟩ d) from ?_]
    · exact put_emb X (rKV n hn) w _
    · funext a
      refine Fin.ext ?_
      match a with
      | ⟨0, _⟩ => refine Eq.trans ?_ (rKV_val n hn _ 0).symm; simp <;> omega
      | ⟨1, _⟩ => refine Eq.trans ?_ (rKV_val n hn _ 1).symm; simp <;> omega
      | ⟨2, _⟩ => refine Eq.trans ?_ (rKV_val n hn _ 2).symm; simp <;> omega
  · rw [if_neg h]
    refine put_of_not X (rKV n hn) w _ fun x hx => h ?_
    have h1 : 128 * n + (x 1).val = t.val := (rKV_val n hn x 1).symm.trans (congrArg Fin.val (congrFun hx 1))
    have h2 : (x 1).val < 128 := (x 1).isLt
    omega

theorem put_rK8 (X : Vec F S2048x128 e) (n : ℕ) (hn : n < 16) (w : Vec F S128x128 e) (t : Fin 2048) (d : Fin 128) :
    put X (rK8 n hn) w (ix2 t d) = if t.val / 128 = n then w (ix2 ⟨t.val % 128, by omega⟩ d) else X (ix2 t d) := by
  by_cases h : t.val / 128 = n
  · rw [if_pos h, show (ix2 t d : S2048x128.Idx) = (rK8 n hn).emb (ix2 ⟨t.val % 128, by omega⟩ d) from ?_]
    · exact put_emb X (rK8 n hn) w _
    · funext a
      refine Fin.ext ?_
      match a with
      | ⟨0, _⟩ => refine Eq.trans ?_ (rK8_val n hn _ 0).symm; simp <;> omega
      | ⟨1, _⟩ => refine Eq.trans ?_ (rK8_val n hn _ 1).symm; simp <;> omega
  · rw [if_neg h]
    refine put_of_not X (rK8 n hn) w _ fun x hx => h ?_
    have h1 : 128 * n + (x 0).val = t.val := (rK8_val n hn x 0).symm.trans (congrArg Fin.val (congrFun hx 0))
    have h2 : (x 0).val < 128 := (x 0).isLt
    omega

theorem put_rVt (X : Vec F S128x2048 e) (n : ℕ) (hn : n < 16) (w : Vec F S128x128 e) (d : Fin 128) (t : Fin 2048) :
    put X (rVt n hn) w (ix2 d t) = if t.val / 128 = n then w (ix2 d ⟨t.val % 128, by omega⟩) else X (ix2 d t) := by
  by_cases h : t.val / 128 = n
  · rw [if_pos h, show (ix2 d t : S128x2048.Idx) = (rVt n hn).emb (ix2 d ⟨t.val % 128, by omega⟩) from ?_]
    · exact put_emb X (rVt n hn) w _
    · funext a
      refine Fin.ext ?_
      match a with
      | ⟨0, _⟩ => refine Eq.trans ?_ (rVt_val n hn _ 0).symm; simp <;> omega
      | ⟨1, _⟩ => refine Eq.trans ?_ (rVt_val n hn _ 1).symm; simp <;> omega
  · rw [if_neg h]
    refine put_of_not X (rVt n hn) w _ fun x hx => h ?_
    have h1 : 128 * n + (x 1).val = t.val := (rVt_val n hn x 1).symm.trans (congrArg Fin.val (congrFun hx 1))
    have h2 : (x 1).val < 128 := (x 1).isLt
    omega

theorem put_rFk (X : Vec F S16x128 e) (n : ℕ) (hn : n < 16) (w : Vec F S1x128 e) (j : Fin 16) (l : Fin 128) :
    put X (rFk n hn) w (ix2 j l) = if j.val = n then w (ix2 (0 : Fin 1) l) else X (ix2 j l) := by
  by_cases h : j.val = n
  · rw [if_pos h, show (ix2 j l : S16x128.Idx) = (rFk n hn).emb (ix2 (0 : Fin 1) l) from ?_]
    · exact put_emb X (rFk n hn) w _
    · funext a
      refine Fin.ext ?_
      match a with
      | ⟨0, _⟩ => refine Eq.trans ?_ (rFk_val n hn _ 0).symm; simp <;> omega
      | ⟨1, _⟩ => refine Eq.trans ?_ (rFk_val n hn _ 1).symm; simp <;> omega
  · rw [if_neg h]
    refine put_of_not X (rFk n hn) w _ fun x hx => h ?_
    have h1 : n + (x 0).val = j.val := (rFk_val n hn x 0).symm.trans (congrArg Fin.val (congrFun hx 0))
    have h2 : (x 0).val < 1 := (x 0).isLt
    omega

theorem put_rSc (X : Vec F S1x1x16x128 e) (n : ℕ) (hn : n < 16) (w : Vec F S1x1x1x128 e) (j : Fin 16) (l : Fin 128) :
    put X (rSc n hn) w (ix4 (0 : Fin 1) (0 : Fin 1) j l) = if j.val = n then w (ix4 (0 : Fin 1) (0 : Fin 1) (0 : Fin 1) l) else X (ix4 (0 : Fin 1) (0 : Fin 1) j l) := by
  by_cases h : j.val = n
  · rw [if_pos h, show (ix4 (0 : Fin 1) (0 : Fin 1) j l : S1x1x16x128.Idx) = (rSc n hn).emb (ix4 (0 : Fin 1) (0 : Fin 1) (0 : Fin 1) l) from ?_]
    · exact put_emb X (rSc n hn) w _
    · funext a
      refine Fin.ext ?_
      match a with
      | ⟨0, _⟩ => refine Eq.trans ?_ (rSc_val n hn _ 0).symm; simp <;> omega
      | ⟨1, _⟩ => refine Eq.trans ?_ (rSc_val n hn _ 1).symm; simp <;> omega
      | ⟨2, _⟩ => refine Eq.trans ?_ (rSc_val n hn _ 2).symm; simp <;> omega
      | ⟨3, _⟩ => refine Eq.trans ?_ (rSc_val n hn _ 3).symm; simp <;> omega
  · rw [if_neg h]
    refine put_of_not X (rSc n hn) w _ fun x hx => h ?_
    have h1 : n + (x 2).val = j.val := (rSc_val n hn x 2).symm.trans (congrArg Fin.val (congrFun hx 2))
    have h2 : (x 2).val < 1 := (x 2).isLt
    omega

theorem put_rQs (X : Vec F S1x1x8x128 e) (n : ℕ) (hn : n < 4) (w : Vec F S1x1x1x128 e) (j : Fin 8) (l : Fin 128) :
    put X (rQs n hn) w (ix4 (0 : Fin 1) (0 : Fin 1) j l) = if j.val = n then w (ix4 (0 : Fin 1) (0 : Fin 1) (0 : Fin 1) l) else X (ix4 (0 : Fin 1) (0 : Fin 1) j l) := by
  by_cases h : j.val = n
  · rw [if_pos h, show (ix4 (0 : Fin 1) (0 : Fin 1) j l : S1x1x8x128.Idx) = (rQs n hn).emb (ix4 (0 : Fin 1) (0 : Fin 1) (0 : Fin 1) l) from ?_]
    · exact put_emb X (rQs n hn) w _
    · funext a
      refine Fin.ext ?_
      match a with
      | ⟨0, _⟩ => refine Eq.trans ?_ (rQs_val n hn _ 0).symm; simp <;> omega
      | ⟨1, _⟩ => refine Eq.trans ?_ (rQs_val n hn _ 1).symm; simp <;> omega
      | ⟨2, _⟩ => refine Eq.trans ?_ (rQs_val n hn _ 2).symm; simp <;> omega
      | ⟨3, _⟩ => refine Eq.trans ?_ (rQs_val n hn _ 3).symm; simp <;> omega
  · rw [if_neg h]
    refine put_of_not X (rQs n hn) w _ fun x hx => h ?_
    have h1 : n + (x 2).val = j.val := (rQs_val n hn x 2).symm.trans (congrArg Fin.val (congrFun hx 2))
    have h2 : (x 2).val < 1 := (x 2).isLt
    omega

/-- A query column: feature `d` of the block's head `h`. -/
def xcol (h : Fin 4) (d : Fin 128) : Fin 512 := ⟨h.val * 128 + d.val, by omega⟩

theorem put_rX (X : Vec F S1x2048x512 e) (h' n : ℕ) (hh : h' < 4) (hn : n < 16) (w : Vec F S1x128x128 e) (t : Fin 2048) (h : Fin 4) (d : Fin 128) :
    put X (rX h' n hh hn) w (ix3 (0 : Fin 1) t (xcol h d)) = if h.val = h' ∧ t.val / 128 = n then w (ix3 (0 : Fin 1) ⟨t.val % 128, by omega⟩ d) else X (ix3 (0 : Fin 1) t (xcol h d)) := by
  by_cases hc : h.val = h' ∧ t.val / 128 = n
  · obtain ⟨hc1, hc2⟩ := hc
    rw [if_pos ⟨hc1, hc2⟩, show (ix3 (0 : Fin 1) t (xcol h d) : S1x2048x512.Idx) = (rX h' n hh hn).emb (ix3 (0 : Fin 1) ⟨t.val % 128, by omega⟩ d) from ?_]
    · exact put_emb X (rX h' n hh hn) w _
    · funext a
      refine Fin.ext ?_
      match a with
      | ⟨0, _⟩ => refine Eq.trans ?_ (rX_val h' n hh hn _ 0).symm; simp <;> omega
      | ⟨1, _⟩ => refine Eq.trans ?_ (rX_val h' n hh hn _ 1).symm; simp <;> omega
      | ⟨2, _⟩ => refine Eq.trans ?_ (rX_val h' n hh hn _ 2).symm; simp [xcol] <;> omega
  · rw [if_neg hc]
    refine put_of_not X (rX h' n hh hn) w _ fun x hx => hc ?_
    have h1 : 128 * n + (x 1).val = t.val := (rX_val h' n hh hn x 1).symm.trans (congrArg Fin.val (congrFun hx 1))
    have h2 : (x 1).val < 128 := (x 1).isLt
    have h3 : 128 * h' + (x 2).val = h.val * 128 + d.val := (rX_val h' n hh hn x 2).symm.trans (congrArg Fin.val (congrFun hx 2))
    have h4 : (x 2).val < 128 := (x 2).isLt
    omega

theorem put_rQ8 (X : Vec F S4x2048x128 e) (h' n : ℕ) (hh : h' < 4) (hn : n < 16) (w : Vec F S1x128x128 e) (t : Fin 2048) (h : Fin 4) (d : Fin 128) :
    put X (rQ8 h' n hh hn) w (ix3 h t d) = if h.val = h' ∧ t.val / 128 = n then w (ix3 (0 : Fin 1) ⟨t.val % 128, by omega⟩ d) else X (ix3 h t d) := by
  by_cases hc : h.val = h' ∧ t.val / 128 = n
  · obtain ⟨hc1, hc2⟩ := hc
    rw [if_pos ⟨hc1, hc2⟩, show (ix3 h t d : S4x2048x128.Idx) = (rQ8 h' n hh hn).emb (ix3 (0 : Fin 1) ⟨t.val % 128, by omega⟩ d) from ?_]
    · exact put_emb X (rQ8 h' n hh hn) w _
    · funext a
      refine Fin.ext ?_
      match a with
      | ⟨0, _⟩ => refine Eq.trans ?_ (rQ8_val h' n hh hn _ 0).symm; simp <;> omega
      | ⟨1, _⟩ => refine Eq.trans ?_ (rQ8_val h' n hh hn _ 1).symm; simp <;> omega
      | ⟨2, _⟩ => refine Eq.trans ?_ (rQ8_val h' n hh hn _ 2).symm; simp <;> omega
  · rw [if_neg hc]
    refine put_of_not X (rQ8 h' n hh hn) w _ fun x hx => hc ?_
    have h1 : 128 * n + (x 1).val = t.val := (rQ8_val h' n hh hn x 1).symm.trans (congrArg Fin.val (congrFun hx 1))
    have h2 : (x 1).val < 128 := (x 1).isLt
    have h3 : h' + (x 0).val = h.val := (rQ8_val h' n hh hn x 0).symm.trans (congrArg Fin.val (congrFun hx 0))
    have h4 : (x 0).val < 1 := (x 0).isLt
    omega

/-! ## Loads -/

theorem get_rKV (X : Vec F S1x2048x128 e) (j : Fin 16) (r d : Fin 128) : get X (rKV j.val j.isLt) (ix3 (0 : Fin 1) r d) = X (ix3 (0 : Fin 1) (tok j r) d) := by
  refine congrArg X ?_
  funext a
  refine Fin.ext ?_
  match a with
  | ⟨0, _⟩ => refine (rKV_val j.val j.isLt _ 0).trans ?_; simp <;> omega
  | ⟨1, _⟩ => refine (rKV_val j.val j.isLt _ 1).trans ?_; simp [tok] <;> omega
  | ⟨2, _⟩ => refine (rKV_val j.val j.isLt _ 2).trans ?_; simp <;> omega

theorem get_rX (X : Vec F S1x2048x512 e) (h : Fin 4) (j : Fin 16) (r d : Fin 128) :
    get X (rX h.val j.val h.isLt j.isLt) (ix3 (0 : Fin 1) r d) = X (ix3 (0 : Fin 1) (tok j r) (xcol h d)) := by
  refine congrArg X ?_
  funext a
  refine Fin.ext ?_
  match a with
  | ⟨0, _⟩ => refine (rX_val h.val j.val h.isLt j.isLt _ 0).trans ?_; simp <;> omega
  | ⟨1, _⟩ => refine (rX_val h.val j.val h.isLt j.isLt _ 1).trans ?_; simp [tok] <;> omega
  | ⟨2, _⟩ => refine (rX_val h.val j.val h.isLt j.isLt _ 2).trans ?_; simp [xcol] <;> omega

/-! ## Reshapes of a block -/

theorem cast3 {φ : FTy} (x : FVec F S128x128 φ) (r d : Fin 128) : (shapeCast S1x128x128 x shapeCasts_S128x128_S1x128x128 : FVec F S1x128x128 φ) (ix3 (0 : Fin 1) r d) = x (ix2 r d) := by
  pointwise
theorem cast2 {φ : FTy} (x : FVec F S128x128 φ) (r d : Fin 128) : (shapeCast S128x128 x shapeCasts_S128x128_S128x128 : FVec F S128x128 φ) (ix2 r d) = x (ix2 r d) := by
  pointwise
theorem castRow {φ : FTy} (x : FVec F S1x128 φ) (l : Fin 128) : (shapeCast S1x128 x shapeCasts_S1x128_S1x128 : FVec F S1x128 φ) (ix2 (0 : Fin 1) l) = x (ix2 (0 : Fin 1) l) := by
  pointwise
theorem castRow4 {φ : FTy} (x : FVec F S1x128 φ) (l : Fin 128) : (shapeCast S1x1x1x128 x shapeCasts_S1x128_S1x1x1x128 : FVec F S1x1x1x128 φ) (ix4 (0 : Fin 1) (0 : Fin 1) (0 : Fin 1) l) = x (ix2 (0 : Fin 1) l) := by
  pointwise

end Cert.KernelIdeal.Hand
end
-- ==== Proof.States.lean ====
/- What the quantising part of the body leaves, read at an index. -/
module

public import proofs.«01_k».proof.Proof.Blocks

@[expose] public section
noncomputable section
namespace Cert.KernelIdeal.Hand
open Idealize.ShloMosaic Idealize.ShloMosaic.TcCoe
open Cert.KernelIdeal Cert.KernelIdeal.Gen
variable {F : FTy → Type} [FloatOps F] [Named F]

/-! ## Keys and values -/

theorem fieldK_kv (s : St F) (n hn j hj) : fieldK (kvSt s n hn) j hj = fieldK s j hj := by
  unfold fieldK; rw [kvSt_in (n := .k) trivial]
theorem codesK_kv (s : St F) (n hn j hj) : codesK (kvSt s n hn) j hj = codesK s j hj := by
  unfold codesK; rw [fieldK_kv, kvSt_in (n := .k) trivial]
theorem fieldV_kv (s : St F) (n hn j hj j' hj') : fieldV (stepK j' hj' (kvSt s n hn)) j hj = fieldV s j hj := by
  unfold fieldV; rw [stepK_in (n := .v) trivial, kvSt_in (n := .v) trivial]
theorem codesV_kv (s : St F) (n hn j hj j' hj') : codesV (stepK j' hj' (kvSt s n hn)) j hj = codesV s j hj := by
  unfold codesV; rw [fieldV_kv, stepK_in (n := .v) trivial, kvSt_in (n := .v) trivial]

section
variable (s : St F)
theorem stepK_kc (j hj) : stepK j hj s .kc = put (s .kc) (rKV j hj) (shapeCast S1x128x128 (codesK s j hj) shapeCasts_S128x128_S1x128x128 : FVec F S1x128x128 .fp8e4m3) := by
  simp [stepK, upd_ne]
theorem stepK_k8 (j hj) : stepK j hj s .k8 = put (s .k8) (rK8 j hj) (shapeCast S128x128 (codesK s j hj) shapeCasts_S128x128_S128x128 : FVec F S128x128 .fp8e4m3) := by
  simp [stepK, upd_ne]
theorem stepK_ks (j hj) : stepK j hj s .ks = put (s .ks) (rSc j hj) (shapeCast S1x1x1x128 (rowOf (scaleOf (fieldK s j hj))) shapeCasts_S1x128_S1x1x1x128 : FVec F S1x1x1x128 .f32) := by
  simp [stepK, upd_ne]
theorem stepK_fk (j hj) : stepK j hj s .fk = put (s .fk) (rFk j hj) (shapeCast S1x128 (facOf (scaleOf (fieldK s j hj))) shapeCasts_S1x128_S1x128 : FVec F S1x128 .f32) := by
  simp [stepK, upd_ne]
theorem stepK_ne {n : Mn} (j hj) (h : n ≠ .kc ∧ n ≠ .k8 ∧ n ≠ .ks ∧ n ≠ .fk) : stepK j hj s n = s n := by
  simp [stepK, upd_ne, h]
theorem stepV_vc (j hj) : stepV j hj s .vc = put (s .vc) (rKV j hj) (shapeCast S1x128x128 (codesV s j hj) shapeCasts_S128x128_S1x128x128 : FVec F S1x128x128 .fp8e4m3) := by
  simp [stepV, upd_ne]
theorem stepV_vs (j hj) : stepV j hj s .vs = put (s .vs) (rSc j hj) (shapeCast S1x1x1x128 (rowOf (scaleOf (fieldV s j hj))) shapeCasts_S1x128_S1x1x1x128 : FVec F S1x1x1x128 .f32) := by
  simp [stepV, upd_ne]
theorem stepV_vt (j hj) : stepV j hj s .vt = put (s .vt) (rVt j hj) (shapeCast S128x128 (vtOf (codesV s j hj) (scaleOf (fieldV s j hj))) shapeCasts_S128x128_S128x128 : FVec F S128x128 .bf16) := by
  simp [stepV, upd_ne]
theorem stepV_ne {n : Mn} (j hj) (h : n ≠ .vc ∧ n ≠ .vs ∧ n ≠ .vt) : stepV j hj s n = s n := by
  simp [stepV, upd_ne, h]

theorem kvSt_kc (n hn) (t : Fin 2048) (d : Fin 128) (h : t.val / 128 < n) :
    kvSt s n hn .kc (ix3 (0 : Fin 1) t d) = codesK s (t.val / 128) (by omega) (ix2 ⟨t.val % 128, by omega⟩ d) := by
  induction n with
  | zero => omega
  | succ n ih =>
    rw [kvSt, stepV_ne _ _ _ (by decide), stepK_kc, codesK_kv]
    refine (put_rKV _ n _ _ t d).trans ?_
    by_cases hc : t.val / 128 = n
    · subst hc; rw [if_pos rfl]; exact cast3 _ _ _
    · rw [if_neg hc]; exact ih _ (by omega)
theorem kvSt_k8 (n hn) (t : Fin 2048) (d : Fin 128) (h : t.val / 128 < n) :
    kvSt s n hn .k8 (ix2 t d) = codesK s (t.val / 128) (by omega) (ix2 ⟨t.val % 128, by omega⟩ d) := by
  induction n with
  | zero => omega
  | succ n ih =>
    rw [kvSt, stepV_ne _ _ _ (by decide), stepK_k8, codesK_kv]
    refine (put_rK8 _ n _ _ t d).trans ?_
    by_cases hc : t.val / 128 = n
    · subst hc; rw [if_pos rfl]; exact cast2 _ _ _
    · rw [if_neg hc]; exact ih _ (by omega)
theorem kvSt_ks (n hn) (j : Fin 16) (l : Fin 128) (h : j.val < n) :
    kvSt s n hn .ks (ix4 (0 : Fin 1) (0 : Fin 1) j l) = rowOf (scaleOf (fieldK s j.val j.isLt)) (ix2 (0 : Fin 1) l) := by
  induction n with
  | zero => omega
  | succ n ih =>
    rw [kvSt, stepV_ne _ _ _ (by decide), stepK_ks, fieldK_kv]
    refine (put_rSc _ n _ _ j l).trans ?_
    by_cases hc : j.val = n
    · subst hc; rw [if_pos rfl]; exact castRow4 _ _
    · rw [if_neg hc]; exact ih _ (by omega)
theorem kvSt_fk (n hn) (j : Fin 16) (l : Fin 128) (h : j.val < n) :
    kvSt s n hn .fk (ix2 j l) = facOf (scaleOf (fieldK s j.val j.isLt)) (ix2 (0 : Fin 1) l) := by
  induction n with
  | zero => omega
  | succ n ih =>
    rw [kvSt, stepV_ne _ _ _ (by decide), stepK_fk, fieldK_kv]
    refine (put_rFk _ n _ _ j l).trans ?_
    by_cases hc : j.val = n
    · subst hc; rw [if_pos rfl]; exact castRow _ _
    · rw [if_neg hc]; exact ih _ (by omega)
theorem kvSt_vc (n hn) (t : Fin 2048) (d : Fin 128) (h : t.val / 128 < n) :
    kvSt s n hn .vc (ix3 (0 : Fin 1) t d) = codesV s (t.val / 128) (by omega) (ix2 ⟨t.val % 128, by omega⟩ d) := by
  induction n with
  | zero => omega
  | succ n ih =>
    rw [kvSt, stepV_vc, codesV_kv, stepK_ne _ _ _ (by decide)]
    refine (put_rKV _ n _ _ t d).trans ?_
    by_cases hc : t.val / 128 = n
    · subst hc; rw [if_pos rfl]; exact cast3 _ _ _
    · rw [if_neg hc]; exact ih _ (by omega)
theorem kvSt_vs (n hn) (j : Fin 16) (l : Fin 128) (h : j.val < n) :
    kvSt s n hn .vs (ix4 (0 : Fin 1) (0 : Fin 1) j l) = rowOf (scaleOf (fieldV s j.val j.isLt)) (ix2 (0 : Fin 1) l) := by
  induction n with
  | zero => omega
  | succ n ih =>
    rw [kvSt, stepV_vs, fieldV_kv, stepK_ne _ _ _ (by decide)]
    refine (put_rSc _ n _ _ j l).trans ?_
    by_cases hc : j.val = n
    · subst hc; rw [if_pos rfl]; exact castRow4 _ _
    · rw [if_neg hc]; exact ih _ (by omega)
theorem kvSt_vt (n hn) (d : Fin 128) (t : Fin 2048) (h : t.val / 128 < n) :
    kvSt s n hn .vt (ix2 d t) = vtOf (codesV s (t.val / 128) (by omega)) (scaleOf (fieldV s (t.val / 128) (by omega))) (ix2 d ⟨t.val % 128, by omega⟩) := by
  induction n with
  | zero => omega
  | succ n ih =>
    rw [kvSt, stepV_vt, codesV_kv, fieldV_kv, stepK_ne _ _ _ (by decide)]
    refine (put_rVt _ n _ _ d t).trans ?_
    by_cases hc : t.val / 128 = n
    · subst hc; rw [if_pos rfl]; exact cast2 _ _ _
    · rw [if_neg hc]; exact ih _ (by omega)

/-! ## Queries -/

theorem accAt_congr (s s' : St F) (h : s .x = s' .x) (hd hh n hn) : accAt s hd hh n hn = accAt s' hd hh n hn := by
  induction n with
  | zero => rfl
  | succ n ih => rw [accAt, accAt, ih, h]
theorem fieldQ_q (n hn h hh) : fieldQ (qSt s n hn) h hh = fieldQ s h hh := by
  unfold fieldQ; rw [accAt_congr _ s (qSt_in (n := .x) trivial s n hn)]

theorem stepQ_qc (h j hh hj inv) : stepQ h j hh hj inv s .qc = put (s .qc) (rX h j hh hj) (shapeCast S1x128x128 (codesOf (wide (get (s .x) (rX h j hh hj))) inv) shapeCasts_S128x128_S1x128x128 : FVec F S1x128x128 .fp8e4m3) := by
  simp [stepQ, upd_ne]
theorem stepQ_q8 (h j hh hj inv) : stepQ h j hh hj inv s .q8 = put (s .q8) (rQ8 h j hh hj) (shapeCast S1x128x128 (codesOf (wide (get (s .x) (rX h j hh hj))) inv) shapeCasts_S128x128_S1x128x128 : FVec F S1x128x128 .fp8e4m3) := by
  simp [stepQ, upd_ne]
theorem stepQ_ne {n : Mn} (h j hh hj inv) (hne : n ≠ .qc ∧ n ≠ .q8) : stepQ h j hh hj inv s n = s n := by
  simp [stepQ, upd_ne, hne]
theorem stepQs_qs (h hh sc) : stepQs h hh sc s .qs = put (s .qs) (rQs h hh) (shapeCast S1x1x1x128 (rowOf sc) shapeCasts_S1x128_S1x1x1x128 : FVec F S1x1x1x128 .f32) := by
  simp [stepQs]
theorem stepQs_ne {n : Mn} (h hh sc) (hne : n ≠ .qs) : stepQs h hh sc s n = s n := by
  simp [stepQs, upd_ne, hne]

theorem codesSt_ne {n : Mn} (inv h hh j hj) (hne : n ≠ .qc ∧ n ≠ .q8) : codesSt inv s h hh j hj n = s n := by
  induction j with
  | zero => rfl
  | succ j ih => rw [codesSt, stepQ_ne _ _ _ _ _ _ hne, ih]

/-- A head's code at a token and feature. -/
def qcode (inv : FVec F S1x1 .f32) (h : Fin 4) (t : Fin 2048) (d : Fin 128) : Elt F .fp8e4m3 :=
  codesOf (wide (get (s .x) (rX h.val (t.val / 128) h.isLt (by omega)))) inv (ix2 ⟨t.val % 128, by omega⟩ d)

theorem codesSt_qc (inv) (h' hh n hn) (t : Fin 2048) (h : Fin 4) (d : Fin 128) :
    codesSt inv s h' hh n hn .qc (ix3 (0 : Fin 1) t (xcol h d)) = if h.val = h' ∧ t.val / 128 < n then qcode s inv h t d else s .qc (ix3 (0 : Fin 1) t (xcol h d)) := by
  induction n with
  | zero => simp [codesSt]
  | succ n ih =>
    rw [codesSt, stepQ_qc]
    refine (put_rX _ h' n _ _ _ t h d).trans ?_
    by_cases hc : h.val = h' ∧ t.val / 128 = n
    · obtain ⟨rfl, rfl⟩ := hc
      rw [if_pos ⟨rfl, rfl⟩, if_pos ⟨rfl, by omega⟩, codesSt_in (n := .x) trivial]; exact cast3 _ _ _
    · rw [if_neg hc, ih]; congr 1; simp only [eq_iff_iff]; omega
theorem codesSt_q8 (inv) (h' hh n hn) (t : Fin 2048) (h : Fin 4) (d : Fin 128) :
    codesSt inv s h' hh n hn .q8 (ix3 h t d) = if h.val = h' ∧ t.val / 128 < n then qcode s inv h t d else s .q8 (ix3 h t d) := by
  induction n with
  | zero => simp [codesSt]
  | succ n ih =>
    rw [codesSt, stepQ_q8]
    refine (put_rQ8 _ h' n _ _ _ t h d).trans ?_
    by_cases hc : h.val = h' ∧ t.val / 128 = n
    · obtain ⟨rfl, rfl⟩ := hc
      rw [if_pos ⟨rfl, rfl⟩, if_pos ⟨rfl, by omega⟩, codesSt_in (n := .x) trivial]; exact cast3 _ _ _
    · rw [if_neg hc, ih]; congr 1; simp only [eq_iff_iff]; omega

theorem qcode_congr (s s' : St F) (hx : s .x = s' .x) (inv) (h t d) : qcode s inv h t d = qcode s' inv h t d := by
  unfold qcode; rw [hx]

theorem qSt_ne {n : Mn} (j hj) (hne : n ≠ .qc ∧ n ≠ .q8 ∧ n ≠ .qs) : qSt s j hj n = kvSt s 16 le_rfl n := by
  induction j with
  | zero => rfl
  | succ j ih => rw [qSt, stepQs_ne _ _ _ _ hne.2.2, codesSt_ne _ _ _ _ _ _ ⟨hne.1, hne.2.1⟩, ih]

theorem qSt_qc (n hn) (t : Fin 2048) (h : Fin 4) (d : Fin 128) (hlt : h.val < n) :
    qSt s n hn .qc (ix3 (0 : Fin 1) t (xcol h d)) = qcode s (invOf (fieldQ s h.val h.isLt)) h t d := by
  induction n with
  | zero => omega
  | succ n ih =>
    rw [qSt, stepQs_ne _ _ _ _ (by decide), fieldQ_q]
    refine (codesSt_qc _ _ n _ 16 _ t h d).trans ?_
    by_cases hc : h.val = n
    · subst hc; rw [if_pos ⟨rfl, by omega⟩]; exact qcode_congr _ _ (qSt_in (n := .x) trivial _ _ _) _ _ _ _
    · rw [if_neg (fun hh => hc hh.1)]; exact ih _ (by omega)
theorem qSt_q8 (n hn) (t : Fin 2048) (h : Fin 4) (d : Fin 128) (hlt : h.val < n) :
    qSt s n hn .q8 (ix3 h t d) = qcode s (invOf (fieldQ s h.val h.isLt)) h t d := by
  induction n with
  | zero => omega
  | succ n ih =>
    rw [qSt, stepQs_ne _ _ _ _ (by decide), fieldQ_q]
    refine (codesSt_q8 _ _ n _ 16 _ t h d).trans ?_
    by_cases hc : h.val = n
    · subst hc; rw [if_pos ⟨rfl, by omega⟩]; exact qcode_congr _ _ (qSt_in (n := .x) trivial _ _ _) _ _ _ _
    · rw [if_neg (fun hh => hc hh.1)]; exact ih _ (by omega)
theorem qSt_qs (n hn) (j : Fin 8) (hj : j.val < 4) (l : Fin 128) (hlt : j.val < n) :
    qSt s n hn .qs (ix4 (0 : Fin 1) (0 : Fin 1) j l) = rowOf (scaleOf (fieldQ s j.val hj)) (ix2 (0 : Fin 1) l) := by
  induction n with
  | zero => omega
  | succ n ih =>
    rw [qSt, stepQs_qs, fieldQ_q, codesSt_ne _ _ _ _ _ _ (by decide)]
    refine (put_rQs _ n _ _ j l).trans ?_
    by_cases hc : j.val = n
    · subst hc; rw [if_pos rfl]; exact castRow4 _ _
    · rw [if_neg hc]; exact ih _ (by omega)

/-! ## The attention part leaves the quantised arrays -/

theorem scoreSt_ne {n : Mn} (hn : n ≠ .sc) (i hi d row) (s : St F) (j hj) : scoreSt i hi d row s j hj n = s n := by
  induction j with
  | zero => rfl
  | succ j ih => rw [scoreSt, upd_ne _ _ hn, ih]
theorem expSt_ne {n : Mn} (hn : n ≠ .p8) (i hi) (s : St F) (mm j hj) : expSt i hi s mm j hj n = s n := by
  induction j with
  | zero => rfl
  | succ j ih => rw [expSt, upd_ne _ _ hn, ih]
theorem tileSt_ne {n : Mn} (hn : n ≠ .sc ∧ n ≠ .p8 ∧ n ≠ .o) (i hi row) (s : St F) (h hh) : tileSt i hi row s h hh n = s n := by
  rw [tileSt, upd_ne _ _ hn.2.2, upd_ne _ _ hn.2.2, tileSt2, expSt_ne hn.2.1, tileSt1, scoreSt_ne hn.1]
theorem pairSt_ne {n : Mn} (hn : n ≠ .sc ∧ n ≠ .p8 ∧ n ≠ .o) (s : St F) (row h hh j hj) : pairSt s row h hh j hj n = s n := by
  induction j with
  | zero => rfl
  | succ j ih => rw [pairSt, tileSt_ne hn, ih]
theorem endSt_ne {n : Mn} (hn : n ≠ .sc ∧ n ≠ .p8 ∧ n ≠ .o) (s : St F) : endSt s n = qSt s 4 le_rfl n := by
  rw [endSt, pairSt_ne hn, pairSt_ne hn]
end

end Cert.KernelIdeal.Hand
end
-- ==== Proof.Values.lean ====
/- What the quantising part of the body leaves over the extended reals: the scales and clipped codes of the largest
   magnitudes. -/
module

public import proofs.«01_k».proof.Proof.States

@[expose] public section
noncomputable section
namespace Cert.KernelIdeal.Hand
open Idealize.ShloMosaic Idealize.ShloMosaic.TcCoe
open Cert.KernelIdeal Cert.KernelIdeal.Gen

theorem wide_at (x : Vec Ideal S1x128x128 .bf16) (r d : Fin 128) : wide (F := Ideal) x (ix2 r d) = x (ix3 (0 : Fin 1) r d) := by
  unfold wide
  pointwise

theorem amax_at (x : FVec Ideal S128x128 .f32) (i : S1x1.Idx) : amaxOf (F := Ideal) x i = ⨆ r : Fin 128, ⨆ d : Fin 128, ab (x (ix2 r d)) := by
  rw [Subsingleton.elim i (ix2 (0 : Fin 1) (0 : Fin 1))]
  unfold amaxOf
  pointwise
  simp only [fold_max_iSup, Finset.mem_univ, iSup_pos]
  rw [iSup_comm]
  rfl

theorem codes_at (x : FVec Ideal S128x128 .f32) (inv : FVec Ideal S1x1 .f32) (r d : Fin 128) : codesOf (F := Ideal) x inv (ix2 r d) = cl (x (ix2 r d)) (inv (ix2 (0 : Fin 1) (0 : Fin 1))) := by
  unfold codesOf cl
  pointwise

theorem row_at (sc : FVec Ideal S1x1 .f32) (l : Fin 128) : rowOf (F := Ideal) sc (ix2 (0 : Fin 1) l) = sc (ix2 (0 : Fin 1) (0 : Fin 1)) := by
  unfold rowOf
  pointwise

theorem ab_eq (x : EReal) : ab x = max x (-x) := Ideal.absf_def x

theorem ab_nonneg (x : EReal) : 0 ≤ ab x := by
  rw [ab_eq]
  rcases le_total 0 x with h | h
  · exact le_max_of_le_left h
  · exact le_max_of_le_right (by simpa using EReal.neg_le_neg_iff.2 h)

theorem ab_of_nonneg {x : EReal} (h : 0 ≤ x) : ab x = x := by
  rw [ab_eq]
  exact max_eq_left (le_trans (by simpa using EReal.neg_le_neg_iff.2 h) h)

/-- The largest finite magnitude. -/
def big : EReal := Ideal.ofBits .f32 0x7F7F0000#32

theorem quant_at (a : EReal) (h0 : 0 ≤ a) (h1 : a ≤ big) (A : FVec Ideal S1x1 .f32) (hA : ∀ i, A i = a) (i : S1x1.Idx) :
    scaleOf (F := Ideal) (fieldOf A) i = scE a ∧ invOf (F := Ideal) (fieldOf A) i = ivE a := by
  obtain ⟨r, -, h, e1, e2⟩ := quant a h0 h1
  exact ⟨(h A hA i).1.trans e1.symm, (h A hA i).2.trans e2.symm⟩

/-- The largest magnitude of a block of 128 tokens of a 2048×128 block, -/
def bMax (X : Vec Ideal S1x2048x128 .bf16) (j : Fin 16) : EReal := ⨆ r : Fin 128, ⨆ d : Fin 128, ab (X (ix3 (0 : Fin 1) (tok j r) d))
/-- and of a head. -/
def hMax (X : Vec Ideal S1x2048x512 .bf16) (h : Fin 4) : EReal := ⨆ t : Fin 2048, ⨆ d : Fin 128, ab (X (ix3 (0 : Fin 1) t (xcol h d)))

theorem bMax_nonneg (X j) : 0 ≤ bMax X j := (ab_nonneg _).trans ((le_iSup (fun d => ab (X (ix3 (0 : Fin 1) (tok j 0) d))) 0).trans
  (le_iSup (fun r : Fin 128 => ⨆ d : Fin 128, ab (X (ix3 (0 : Fin 1) (tok j r) d))) 0))
theorem hMax_nonneg (X h) : 0 ≤ hMax X h := (ab_nonneg _).trans ((le_iSup (fun d => ab (X (ix3 (0 : Fin 1) 0 (xcol h d)))) 0).trans
  (le_iSup (fun t : Fin 2048 => ⨆ d : Fin 128, ab (X (ix3 (0 : Fin 1) t (xcol h d)))) 0))
theorem bMax_le (X j) (hX : ∀ i, ab (X i) ≤ big) : bMax X j ≤ big := iSup_le fun _ => iSup_le fun _ => hX _
theorem hMax_le (X h) (hX : ∀ i, ab (X i) ≤ big) : hMax X h ≤ big := iSup_le fun _ => iSup_le fun _ => hX _

theorem wide_kv (X : Vec Ideal S1x2048x128 .bf16) (j : Fin 16) (r d : Fin 128) : wide (F := Ideal) (get X (rKV j.val j.isLt)) (ix2 r d) = X (ix3 (0 : Fin 1) (tok j r) d) :=
  (wide_at _ r d).trans (get_rKV X j r d)
theorem wide_x (X : Vec Ideal S1x2048x512 .bf16) (h : Fin 4) (j : Fin 16) (r d : Fin 128) :
    wide (F := Ideal) (get X (rX h.val j.val h.isLt j.isLt)) (ix2 r d) = X (ix3 (0 : Fin 1) (tok j r) (xcol h d)) :=
  (wide_at _ r d).trans (get_rX X h j r d)

theorem amax_kv (X : Vec Ideal S1x2048x128 .bf16) (j : Fin 16) (i : S1x1.Idx) : amaxOf (F := Ideal) (wide (get X (rKV j.val j.isLt))) i = bMax X j := by
  rw [amax_at, bMax]
  refine iSup_congr fun r => iSup_congr fun d => congrArg ab (wide_kv X j r d)

variable (s : St Ideal)

theorem acc_le (h : Fin 4) (n hn) (r d : Fin 128) (c : EReal) : accAt s h.val h.isLt n hn (ix2 r d) ≤ c ↔ 0 ≤ c ∧ ∀ j : Fin 16, j.val < n → ab (s .x (ix3 (0 : Fin 1) (tok j r) (xcol h d))) ≤ c := by
  induction n with
  | zero =>
    rw [show accAt s h.val h.isLt 0 hn (ix2 r d) = (0 : EReal) from Ideal.ofBits_zero_f32]
    exact ⟨fun h => ⟨h, fun j hj => absurd hj (by omega)⟩, fun h => h.1⟩
  | succ n ih =>
    rw [show accAt s h.val h.isLt (n + 1) hn (ix2 r d) = max (accAt s h.val h.isLt n (by omega) (ix2 r d)) (ab (wide (get (s .x) (rX h.val n h.isLt (by omega))) (ix2 r d))) from rfl,
      show wide (F := Ideal) (get (s .x) (rX h.val n h.isLt (by omega))) (ix2 r d) = s .x (ix3 (0 : Fin 1) (tok ⟨n, by omega⟩ r) (xcol h d)) from wide_x (s .x) h ⟨n, by omega⟩ r d,
      max_le_iff, ih]
    constructor
    · rintro ⟨⟨h0, h1⟩, h2⟩
      refine ⟨h0, fun j hj => ?_⟩
      by_cases hjn : j.val = n
      · rw [show j = ⟨n, by omega⟩ from Fin.ext hjn]; exact h2
      · exact h1 j (by omega)
    · rintro ⟨h0, h1⟩
      exact ⟨⟨h0, fun j hj => h1 j (by omega)⟩, h1 ⟨n, by omega⟩ (by simp)⟩

theorem amax_q (h : Fin 4) (i : S1x1.Idx) : amaxOf (F := Ideal) (accAt s h.val h.isLt 16 le_rfl) i = hMax (s .x) h := by
  rw [amax_at, hMax]
  have hnn : ∀ r d, 0 ≤ accAt s h.val h.isLt 16 le_rfl (ix2 r d) := fun r d => ((acc_le s h 16 le_rfl r d _).1 le_rfl).1
  refine eq_of_forall_ge_iff fun c => ?_
  simp only [iSup_le_iff]
  constructor
  · intro H t d
    have := H ⟨t.val % 128, by omega⟩ d
    rw [ab_of_nonneg (hnn _ _), acc_le] at this
    have := this.2 ⟨t.val / 128, by omega⟩ (by show t.val / 128 < 16; omega)
    rwa [show tok ⟨t.val / 128, by omega⟩ ⟨t.val % 128, by omega⟩ = t from Fin.ext (Nat.div_add_mod' t.val 128)] at this
  · intro H r d
    rw [ab_of_nonneg (hnn _ _), acc_le]
    exact ⟨(ab_nonneg _).trans (H 0 0), fun j _ => H _ _⟩

/-! ## Scales and codes -/

section
variable (hx : ∀ i, ab (s .x i) ≤ big) (hk : ∀ i, ab (s .k i) ≤ big) (hv : ∀ i, ab (s .v i) ≤ big)

include hk in
theorem scK (j : Fin 16) (i) : scaleOf (F := Ideal) (fieldK s j.val j.isLt) i = scE (bMax (s .k) j) ∧ invOf (F := Ideal) (fieldK s j.val j.isLt) i = ivE (bMax (s .k) j) :=
  quant_at _ (bMax_nonneg _ _) (bMax_le _ _ hk) _ (amax_kv (s .k) j) i
include hv in
theorem scV (j : Fin 16) (i) : scaleOf (F := Ideal) (fieldV s j.val j.isLt) i = scE (bMax (s .v) j) ∧ invOf (F := Ideal) (fieldV s j.val j.isLt) i = ivE (bMax (s .v) j) :=
  quant_at _ (bMax_nonneg _ _) (bMax_le _ _ hv) _ (amax_kv (s .v) j) i
include hx in
theorem scQ (h : Fin 4) (i) : scaleOf (F := Ideal) (fieldQ s h.val h.isLt) i = scE (hMax (s .x) h) ∧ invOf (F := Ideal) (fieldQ s h.val h.isLt) i = ivE (hMax (s .x) h) :=
  quant_at _ (hMax_nonneg _ _) (hMax_le _ _ hx) _ (amax_q s h) i

theorem tok_div (t : Fin 2048) : tok ⟨t.val / 128, by omega⟩ ⟨t.val % 128, by omega⟩ = t := Fin.ext (Nat.div_add_mod' t.val 128)

include hk in
theorem codeK (t : Fin 2048) (d : Fin 128) : codesK s (t.val / 128) (by omega) (ix2 ⟨t.val % 128, by omega⟩ d) =
    cl (s .k (ix3 (0 : Fin 1) t d)) (ivE (bMax (s .k) ⟨t.val / 128, by omega⟩)) := by
  unfold codesK
  exact (codes_at _ _ _ _).trans (congrArg₂ cl ((wide_kv (s .k) ⟨t.val / 128, by omega⟩ _ d).trans (by rw [tok_div])) (scK s hk ⟨t.val / 128, by omega⟩ _).2)
include hv in
theorem codeV (t : Fin 2048) (d : Fin 128) : codesV s (t.val / 128) (by omega) (ix2 ⟨t.val % 128, by omega⟩ d) =
    cl (s .v (ix3 (0 : Fin 1) t d)) (ivE (bMax (s .v) ⟨t.val / 128, by omega⟩)) := by
  unfold codesV
  exact (codes_at _ _ _ _).trans (congrArg₂ cl ((wide_kv (s .v) ⟨t.val / 128, by omega⟩ _ d).trans (by rw [tok_div])) (scV s hv ⟨t.val / 128, by omega⟩ _).2)
include hx in
theorem codeQ (h : Fin 4) (t : Fin 2048) (d : Fin 128) : qcode s (invOf (fieldQ s h.val h.isLt)) h t d =
    cl (s .x (ix3 (0 : Fin 1) t (xcol h d))) (ivE (hMax (s .x) h)) := by
  unfold qcode
  exact (codes_at _ _ _ _).trans (congrArg₂ cl ((wide_x (s .x) h ⟨t.val / 128, by omega⟩ _ d).trans (by rw [tok_div])) (scQ s hx h _).2)

/-! ## The results -/

include hk in
theorem end_kc (t : Fin 2048) (d : Fin 128) : endSt s .kc (ix3 (0 : Fin 1) t d) = cl (s .k (ix3 (0 : Fin 1) t d)) (ivE (bMax (s .k) ⟨t.val / 128, by omega⟩)) := by
  rw [endSt_ne (by decide), qSt_ne _ _ _ (by decide)]
  exact (kvSt_kc s 16 le_rfl t d (by omega)).trans (codeK s hk t d)
include hv in
theorem end_vc (t : Fin 2048) (d : Fin 128) : endSt s .vc (ix3 (0 : Fin 1) t d) = cl (s .v (ix3 (0 : Fin 1) t d)) (ivE (bMax (s .v) ⟨t.val / 128, by omega⟩)) := by
  rw [endSt_ne (by decide), qSt_ne _ _ _ (by decide)]
  exact (kvSt_vc s 16 le_rfl t d (by omega)).trans (codeV s hv t d)
include hk in
theorem end_ks (j : Fin 16) (l : Fin 128) : endSt s .ks (ix4 (0 : Fin 1) (0 : Fin 1) j l) = scE (bMax (s .k) j) := by
  rw [endSt_ne (by decide), qSt_ne _ _ _ (by decide)]
  exact (kvSt_ks s 16 le_rfl j l j.isLt).trans ((row_at _ l).trans (scK s hk j _).1)
include hv in
theorem end_vs (j : Fin 16) (l : Fin 128) : endSt s .vs (ix4 (0 : Fin 1) (0 : Fin 1) j l) = scE (bMax (s .v) j) := by
  rw [endSt_ne (by decide), qSt_ne _ _ _ (by decide)]
  exact (kvSt_vs s 16 le_rfl j l j.isLt).trans ((row_at _ l).trans (scV s hv j _).1)
include hx in
theorem end_qc (t : Fin 2048) (h : Fin 4) (d : Fin 128) : endSt s .qc (ix3 (0 : Fin 1) t (xcol h d)) = cl (s .x (ix3 (0 : Fin 1) t (xcol h d))) (ivE (hMax (s .x) h)) := by
  rw [endSt_ne (by decide)]
  exact (qSt_qc s 4 le_rfl t h d h.isLt).trans (codeQ s hx h t d)
include hx in
theorem end_qs (r : Fin 8) (hr : r.val < 4) (l : Fin 128) : endSt s .qs (ix4 (0 : Fin 1) (0 : Fin 1) r l) = scE (hMax (s .x) ⟨r.val, hr⟩) := by
  rw [endSt_ne (by decide)]
  exact (qSt_qs s 4 le_rfl r hr l hr).trans ((row_at _ l).trans (scQ s hx ⟨r.val, hr⟩ _).1)
end

end Cert.KernelIdeal.Hand
end
-- ==== Proof.Arrays.lean ====
/- The arrays that the kernel's run ends with, over the extended reals: the scales and codes of the arguments. -/
module

public import proofs.«01_k».proof.Proof.Values
public import Idealize.ShloMosaic.Lib.Pipeline.ValueKit.Geometry

@[expose] public section
noncomputable section
namespace Cert.KernelIdeal.Hand
open Idealize.ShloMosaic Idealize.ShloMosaic.TcCoe
open Cert.KernelIdeal Cert.KernelIdeal.Gen
open Idealize.ShloMosaic.Pipeline (Dat Cfg Window)

/-- The batch and the key head of a grid point. -/
def pb (t : Fin cfg0.N) : Fin 8 := grid0.coords t 0
def pg (t : Fin cfg0.N) : Fin 8 := grid0.coords t 1

/-- A query head of a key head. -/
def hdq (g : Fin 8) (r : Fin 4) : Fin 32 := ⟨g.val * 4 + r.val, by omega⟩

/-! ## Where a point's blocks lie -/

theorem idx0 : ∀ t : Fin cfg0.N, win0_0.index t = ![(grid0.coords t 0).val, 0, (grid0.coords t 1).val] := (by decide +kernel : ∀ t : Fin grid0.N, _)
theorem idx1 : ∀ t : Fin cfg0.N, win0_1.index t = ![(grid0.coords t 0).val, 0, (grid0.coords t 1).val] := (by decide +kernel : ∀ t : Fin grid0.N, _)
theorem idx2 : ∀ t : Fin cfg0.N, win0_2.index t = ![(grid0.coords t 0).val, 0, (grid0.coords t 1).val] := (by decide +kernel : ∀ t : Fin grid0.N, _)
theorem idx3 : ∀ t : Fin cfg0.N, win0_3.index t = ![(grid0.coords t 0).val, 0, (grid0.coords t 1).val] := (by decide +kernel : ∀ t : Fin grid0.N, _)
theorem idx4 : ∀ t : Fin cfg0.N, win0_4.index t = ![(grid0.coords t 0).val, 0, (grid0.coords t 1).val] := (by decide +kernel : ∀ t : Fin grid0.N, _)
theorem idx5 : ∀ t : Fin cfg0.N, win0_5.index t = ![(grid0.coords t 0).val, 0, (grid0.coords t 1).val] := (by decide +kernel : ∀ t : Fin grid0.N, _)
theorem idx6 : ∀ t : Fin cfg0.N, win0_6.index t = ![(grid0.coords t 0).val, 0, (grid0.coords t 1).val] := (by decide +kernel : ∀ t : Fin grid0.N, _)
theorem idx7 : ∀ t : Fin cfg0.N, win0_7.index t = ![(grid0.coords t 0).val, (grid0.coords t 1).val, 0, 0] := (by decide +kernel : ∀ t : Fin grid0.N, _)
theorem idx8 : ∀ t : Fin cfg0.N, win0_8.index t = ![(grid0.coords t 0).val, (grid0.coords t 1).val, 0, 0] := (by decide +kernel : ∀ t : Fin grid0.N, _)
theorem idx9 : ∀ t : Fin cfg0.N, win0_9.index t = ![(grid0.coords t 0).val, (grid0.coords t 1).val, 0, 0] := (by decide +kernel : ∀ t : Fin grid0.N, _)

theorem emb1 (t : Fin cfg0.N) (r : Fin 2048) (d : Fin 128) : ((cfg0.win 1).blk t).view.emb (ix3 (0 : Fin 1) r d : S1x2048x128.Idx) = i3 (pb t) r (kcol (pg t) d) := by
  unfold pb pg kcol
  funext a; apply Fin.ext
  match a with
  | ⟨0, _⟩ => blk_simp [idx1]; rfl
  | ⟨1, _⟩ => blk_simp [idx1]
  | ⟨2, _⟩ => blk_simp [idx1]

theorem emb2 (t : Fin cfg0.N) (r : Fin 2048) (d : Fin 128) : ((cfg0.win 2).blk t).view.emb (ix3 (0 : Fin 1) r d : S1x2048x128.Idx) = i3 (pb t) r (kcol (pg t) d) := by
  unfold pb pg kcol
  funext a; apply Fin.ext
  match a with
  | ⟨0, _⟩ => blk_simp [idx2]; rfl
  | ⟨1, _⟩ => blk_simp [idx2]
  | ⟨2, _⟩ => blk_simp [idx2]

theorem emb5 (t : Fin cfg0.N) (r : Fin 2048) (d : Fin 128) : ((cfg0.win 5).blk t).view.emb (ix3 (0 : Fin 1) r d : S1x2048x128.Idx) = i3 (pb t) r (kcol (pg t) d) := by
  unfold pb pg kcol
  funext a; apply Fin.ext
  match a with
  | ⟨0, _⟩ => blk_simp [idx5]; rfl
  | ⟨1, _⟩ => blk_simp [idx5]
  | ⟨2, _⟩ => blk_simp [idx5]

theorem emb6 (t : Fin cfg0.N) (r : Fin 2048) (d : Fin 128) : ((cfg0.win 6).blk t).view.emb (ix3 (0 : Fin 1) r d : S1x2048x128.Idx) = i3 (pb t) r (kcol (pg t) d) := by
  unfold pb pg kcol
  funext a; apply Fin.ext
  match a with
  | ⟨0, _⟩ => blk_simp [idx6]; rfl
  | ⟨1, _⟩ => blk_simp [idx6]
  | ⟨2, _⟩ => blk_simp [idx6]

theorem emb0 (t : Fin cfg0.N) (r : Fin 2048) (h : Fin 4) (d : Fin 128) : ((cfg0.win 0).blk t).view.emb (ix3 (0 : Fin 1) r (xcol h d) : S1x2048x512.Idx) = i3 (pb t) r (qcol (hdq (pg t) h) d) := by
  unfold pb pg qcol xcol hdq
  funext a; apply Fin.ext
  match a with
  | ⟨0, _⟩ => blk_simp [idx0]; rfl
  | ⟨1, _⟩ => blk_simp [idx0]
  | ⟨2, _⟩ => blk_simp [idx0]; show (_ : ℕ) * 512 + (h.val * 128 + d.val) = (_ * 4 + h.val) * 128 + d.val; omega

theorem emb3 (t : Fin cfg0.N) (r : Fin 2048) (h : Fin 4) (d : Fin 128) : ((cfg0.win 3).blk t).view.emb (ix3 (0 : Fin 1) r (xcol h d) : S1x2048x512.Idx) = i3 (pb t) r (qcol (hdq (pg t) h) d) := by
  unfold pb pg qcol xcol hdq
  funext a; apply Fin.ext
  match a with
  | ⟨0, _⟩ => blk_simp [idx3]; rfl
  | ⟨1, _⟩ => blk_simp [idx3]
  | ⟨2, _⟩ => blk_simp [idx3]; show (_ : ℕ) * 512 + (h.val * 128 + d.val) = (_ * 4 + h.val) * 128 + d.val; omega

theorem emb4 (t : Fin cfg0.N) (r : Fin 2048) (h : Fin 4) (d : Fin 128) : ((cfg0.win 4).blk t).view.emb (ix3 (0 : Fin 1) r (xcol h d) : S1x2048x512.Idx) = i3 (pb t) r (qcol (hdq (pg t) h) d) := by
  unfold pb pg qcol xcol hdq
  funext a; apply Fin.ext
  match a with
  | ⟨0, _⟩ => blk_simp [idx4]; rfl
  | ⟨1, _⟩ => blk_simp [idx4]
  | ⟨2, _⟩ => blk_simp [idx4]; show (_ : ℕ) * 512 + (h.val * 128 + d.val) = (_ * 4 + h.val) * 128 + d.val; omega

theorem emb7 (t : Fin cfg0.N) (j : Fin 8) (l : Fin 128) : ((cfg0.win 7).blk t).view.emb (ix4 (0 : Fin 1) (0 : Fin 1) j l : S1x1x8x128.Idx) = ix4 (pb t) (pg t) j l := by
  unfold pb pg
  funext a; apply Fin.ext
  match a with
  | ⟨0, _⟩ => blk_simp [idx7]; rfl
  | ⟨1, _⟩ => blk_simp [idx7]; rfl
  | ⟨2, _⟩ => blk_simp [idx7]
  | ⟨3, _⟩ => blk_simp [idx7]

theorem emb8 (t : Fin cfg0.N) (j : Fin 16) (l : Fin 128) : ((cfg0.win 8).blk t).view.emb (ix4 (0 : Fin 1) (0 : Fin 1) j l : S1x1x16x128.Idx) = ix4 (pb t) (pg t) j l := by
  unfold pb pg
  funext a; apply Fin.ext
  match a with
  | ⟨0, _⟩ => blk_simp [idx8]; rfl
  | ⟨1, _⟩ => blk_simp [idx8]; rfl
  | ⟨2, _⟩ => blk_simp [idx8]
  | ⟨3, _⟩ => blk_simp [idx8]

theorem emb9 (t : Fin cfg0.N) (j : Fin 16) (l : Fin 128) : ((cfg0.win 9).blk t).view.emb (ix4 (0 : Fin 1) (0 : Fin 1) j l : S1x1x16x128.Idx) = ix4 (pb t) (pg t) j l := by
  unfold pb pg
  funext a; apply Fin.ext
  match a with
  | ⟨0, _⟩ => blk_simp [idx9]; rfl
  | ⟨1, _⟩ => blk_simp [idx9]; rfl
  | ⟨2, _⟩ => blk_simp [idx9]
  | ⟨3, _⟩ => blk_simp [idx9]

/-! ## The arguments at a point -/

variable (m : (ℓ : Loc nD τ sig) → Buf (Elt Ideal) ℓ)

/-- The argument arrays. -/
abbrev xM (c : Dev nD) : QArr := m ((c.tc : Thread nD τ).loc main_arg0)
abbrev kM (c : Dev nD) : KArr := m ((c.tc : Thread nD τ).loc main_arg1)
abbrev vM (c : Dev nD) : KArr := m ((c.tc : Thread nD τ).loc main_arg2)

variable {m} {c : Dev nD} {t : Fin cfg0.N} {s : St Ideal} (hs : Holds m c t s)
include hs

theorem in_x (r : Fin 2048) (h : Fin 4) (d : Fin 128) : s .x (ix3 (0 : Fin 1) r (xcol h d)) = xM m c (i3 (pb t) r (qcol (hdq (pg t) h) d)) := by
  rw [hs.1]; exact congrArg (xM m c) (emb0 t r h d)
theorem in_k (r : Fin 2048) (d : Fin 128) : s .k (ix3 (0 : Fin 1) r d) = kM m c (i3 (pb t) r (kcol (pg t) d)) := by
  rw [hs.2.1]; exact congrArg (kM m c) (emb1 t r d)
theorem in_v (r : Fin 2048) (d : Fin 128) : s .v (ix3 (0 : Fin 1) r d) = vM m c (i3 (pb t) r (kcol (pg t) d)) := by
  rw [hs.2.2]; exact congrArg (vM m c) (emb2 t r d)
theorem le_x (h : ∀ i, ab (xM m c i) ≤ big) (i) : ab (s .x i) ≤ big := by rw [hs.1]; exact h _
theorem le_k (h : ∀ i, ab (kM m c i) ≤ big) (i) : ab (s .k i) ≤ big := by rw [hs.2.1]; exact h _
theorem le_v (h : ∀ i, ab (vM m c i) ≤ big) (i) : ab (s .v i) ≤ big := by rw [hs.2.2]; exact h _
theorem max_k (j : Fin 16) : bMax (s .k) j = kAmax (kM m c) (pb t) j (pg t) := iSup_congr fun _ => iSup_congr fun _ => congrArg ab (in_k hs _ _)
theorem max_v (j : Fin 16) : bMax (s .v) j = kAmax (vM m c) (pb t) j (pg t) := iSup_congr fun _ => iSup_congr fun _ => congrArg ab (in_v hs _ _)
theorem max_x (h : Fin 4) : hMax (s .x) h = qAmax (xM m c) (pb t) (hdq (pg t) h) := iSup_congr fun _ => iSup_congr fun _ => congrArg ab (in_x hs _ _ _)
omit hs

/-! ## What the arrays are -/

/-- The array's element is `G` of its place: of the codes of keys (or values), of the queries' and of the scales. -/
def KcIs (A : KArr) (X : KArr) : Prop := ∀ (b : Fin 8) (t : Fin 2048) (g : Fin 8) (d : Fin 128), X (i3 b t (kcol g d)) = cl (A (i3 b t (kcol g d))) (ivE (kAmax A b ⟨t.val / 128, by omega⟩ g))
def QcIs (A : QArr) (X : QArr) : Prop := ∀ (b : Fin 8) (t : Fin 2048) (h : Fin 32) (d : Fin 128), X (i3 b t (qcol h d)) = cl (A (i3 b t (qcol h d))) (ivE (qAmax A b h))
def KsIs (A : KArr) (X : S8x8x16x128.Idx → EReal) : Prop := ∀ (b g : Fin 8) (j : Fin 16) (l : Fin 128), X (ix4 b g j l) = scE (kAmax A b j g)
def QsIs (A : QArr) (X : S8x8x8x128.Idx → EReal) : Prop := ∀ (b g r : Fin 8) (hr : r.val < 4) (l : Fin 128), X (ix4 b g r l) = scE (qAmax A b (hdq g ⟨r.val, hr⟩))

theorem KcIs.ext {A X Y : KArr} (hX : KcIs A X) (hY : KcIs A Y) : X = Y := by
  funext i
  have e : i = i3 (i 0) (i 1) (kcol ⟨(i 2).val / 128, by have := (i 2).isLt; change (i 2).val < 1024 at this; omega⟩ ⟨(i 2).val % 128, by omega⟩) := by
    funext a
    match a with
    | ⟨0, _⟩ => rfl
    | ⟨1, _⟩ => rfl
    | ⟨2, _⟩ => exact Fin.ext (Nat.div_add_mod' _ 128).symm
  rw [e]
  exact (hX _ _ _ _).trans (hY _ _ _ _).symm
theorem QcIs.ext {A X Y : QArr} (hX : QcIs A X) (hY : QcIs A Y) : X = Y := by
  funext i
  have e : i = i3 (i 0) (i 1) (qcol ⟨(i 2).val / 128, by have := (i 2).isLt; change (i 2).val < 4096 at this; omega⟩ ⟨(i 2).val % 128, by omega⟩) := by
    funext a
    match a with
    | ⟨0, _⟩ => rfl
    | ⟨1, _⟩ => rfl
    | ⟨2, _⟩ => exact Fin.ext (Nat.div_add_mod' _ 128).symm
  rw [e]
  exact (hX _ _ _ _).trans (hY _ _ _ _).symm
theorem KsIs.ext {A X Y} (hX : KsIs A X) (hY : KsIs A Y) : X = Y := by
  funext i
  rw [eq_ix4 i]
  exact (hX _ _ _ _).trans (hY _ _ _ _).symm
theorem QsIs.ext {A X Y} (hX : QsIs A X) (hY : QsIs A Y) (i : S8x8x8x128.Idx) (hi : (i 2).val < 4) : X i = Y i := by
  rw [eq_ix4 i]
  exact (hX _ _ _ hi _).trans (hY _ _ _ hi _).symm

end Cert.KernelIdeal.Hand
end
-- ==== Proof.AttnRead.lean ====
/- The attention part's values read at an index. -/
module

public import proofs.«01_k».proof.Proof.Values
public import Idealize.ShloMosaic.Lib.MatmulPlain

@[expose] public section
noncomputable section
namespace Cert.KernelIdeal.Hand
open Idealize.ShloMosaic Idealize.ShloMosaic.TcCoe
open Cert.KernelIdeal Cert.KernelIdeal.Gen

theorem fac4_at (x : FVec Ideal S1x128 .f32) (col : Fin 512) : fac4 (F := Ideal) x (ix2 (0 : Fin 1) col) = x (ix2 (0 : Fin 1) ⟨col.val % 128, by omega⟩) := by
  unfold fac4
  pointwise
  split_ifs <;> exact congrArg x (congrArg (ix2 (0 : Fin 1)) (Fin.ext (by simp <;> omega)))

theorem bcast_at (x : FVec Ideal S1x512 .f32) (r : Fin 128) (col : Fin 512) : broadcastTo S128x512 x broadcasts_S1x512_S128x512 (ix2 r col) = x (ix2 (0 : Fin 1) col) := by
  pointwise

theorem slice_at (i n : ℕ) (hn : n < 2 * (i + 1)) (d : FVec Ideal (Shape.mk 2 ![256 * (i + 1), 512]) .f32) (r : Fin 128) (col : Fin 512) :
    extractStridedSlice S128x512 ![128 * n, 0] d (slices_blk i n hn) (ix2 r col) = d (ix2 ⟨128 * n + r.val, by omega⟩ col) := by
  refine congrArg d ?_
  funext a
  refine Fin.ext ?_
  match a with
  | ⟨0, _⟩ => rfl
  | ⟨1, _⟩ => exact Nat.zero_add _

theorem raw_at (i n : ℕ) (hn : n < 2 * (i + 1)) (d : FVec Ideal (Shape.mk 2 ![256 * (i + 1), 512]) .f32) (x : FVec Ideal S1x128 .f32) (qrow : FVec Ideal S1x512 .f32) (r : Fin 128) (col : Fin 512) :
    rawScore (F := Ideal) i n hn d x qrow (ix2 r col) = d (ix2 ⟨128 * n + r.val, by omega⟩ col) * (x (ix2 (0 : Fin 1) ⟨col.val % 128, by omega⟩) * qrow (ix2 (0 : Fin 1) col)) := by
  unfold rawScore
  rw [ValueIdx.mulf_apply, bcast_at, ValueIdx.mulf_apply, fac4_at]
  exact congrArg (· * _) (slice_at i n hn d r col)

theorem mask_at (off : BitVec 32) (r : Fin 128) (col : Fin 512) :
    maskAt off (ix2 r col) = IntOp.cmpi .sle (IntOp.addi (BitVec.ofNat 32 r.val) off) (BitVec.ofNat 32 (col.val % 256)) := by
  unfold maskAt
  pointwise
  split_ifs with h
  · rw [Nat.mod_eq_of_lt (by simpa using h)]
  · congr 2
    simp at h ⊢
    omega

theorem maxStep_at (m : FVec Ideal S8x512 .f32) (t : FVec Ideal S128x512 .f32) (p : Fin 8) (col : Fin 512) :
    maxStep (F := Ideal) m t (ix2 p col) = max (m (ix2 p col)) (⨆ a : Fin 16, t (ix2 ⟨a.val * 8 + p.val, by omega⟩ col)) := by
  unfold maxStep
  pointwise
  simp only [fold_max_iSup, Finset.mem_univ, iSup_pos]

theorem maxEnd_at (m : FVec Ideal S8x512 .f32) (col : Fin 512) : maxEnd (F := Ideal) m (ix2 (0 : Fin 1) col) = ⨆ p : Fin 8, m (ix2 p col) := by
  unfold maxEnd
  pointwise
  simp only [fold_max_iSup, Finset.mem_univ, iSup_pos]

theorem sumStep_at (m : FVec Ideal S8x512 .f32) (t : FVec Ideal S128x512 .f32) (p : Fin 8) (col : Fin 512) :
    sumStep (F := Ideal) m t (ix2 p col) = m (ix2 p col) + ∑ a : Fin 16, t (ix2 ⟨a.val * 8 + p.val, by omega⟩ col) := by
  unfold sumStep
  pointwise

theorem sumEnd_at (m : FVec Ideal S8x512 .f32) (col : Fin 512) : sumEnd (F := Ideal) m (ix2 (0 : Fin 1) col) = ∑ p : Fin 8, m (ix2 p col) := by
  unfold sumEnd
  pointwise

theorem exp_at (t : FVec Ideal S128x512 .f32) (m : FVec Ideal S1x512 .f32) (r : Fin 128) (col : Fin 512) :
    expOf (F := Ideal) t m (ix2 r col) = Ideal.exp2 (t (ix2 r col) - m (ix2 (0 : Fin 1) col)) := by
  unfold expOf
  show Ideal.exp2 (t (ix2 r col) - broadcastTo S128x512 m broadcasts_S1x512_S128x512 (ix2 r col)) = _
  rw [bcast_at]

theorem qt_at (a b : FVec Ideal S1x256x128 .fp8e4m3) (col : Fin 512) (d : Fin 128) :
    qtOf (F := Ideal) a b (ix2 col d) = if col.val < 256 then a (ix3 (0 : Fin 1) ⟨col.val % 256, by omega⟩ d) else b (ix3 (0 : Fin 1) ⟨col.val % 256, by omega⟩ d) := by
  unfold qtOf
  pointwise
  split_ifs with h
  · exact congrArg a (congrArg (fun z => ix3 (0 : Fin 1) z d) (Fin.ext (by simp <;> omega)))
  · exact congrArg b (congrArg (fun z => ix3 (0 : Fin 1) z d) (Fin.ext (by simp <;> omega)))
  · refine congrArg b (congrArg (fun z => ix3 (0 : Fin 1) z d) (Fin.ext ?_))
    show col.val - 256 = col.val % 256
    omega

theorem dots_at (i : ℕ) (kk : FVec Ideal (Shape.mk 2 ![256 * (i + 1), 128]) .fp8e4m3) (qt : FVec Ideal S512x128 .fp8e4m3) (key : Fin (256 * (i + 1))) (col : Fin 512) :
    dotsOf (F := Ideal) i kk qt (ix2 key col) = ∑ d : Fin 128, kk (ix2 key d) * qt (ix2 col d) := by
  unfold dotsOf
  refine (Ideal.matmul_transposedRhs_apply none kk qt _ key col).trans ?_
  show Ideal.ofBits .f32 0x00000000#32 + _ = _
  rw [Ideal.ofBits_zero_f32, zero_add]
  rfl

theorem out_at (i : ℕ) (vv : FVec Ideal (Shape.mk 2 ![128, 256 * (i + 1)]) .bf16) (pp : FVec Ideal (Shape.mk 2 ![256 * (i + 1), 512]) .fp8e4m3) (l : FVec Ideal S1x512 .f32) (d : Fin 128) (col : Fin 512) :
    outOf (F := Ideal) i vv pp l (ix2 d col) = Ideal.div (∑ key : Fin (256 * (i + 1)), vv (ix2 d key) * pp (ix2 key col)) (l (ix2 (0 : Fin 1) col)) := by
  unfold outOf
  show Ideal.div (FloatOps.matmul (F := Ideal) _ none vv pp _ (ix2 d col)) (broadcastTo S128x512 l broadcasts_S1x512_S128x512 (ix2 d col)) = _
  rw [bcast_at]
  refine congrArg (fun z => Ideal.div z _) ?_
  refine (Ideal.matmul_plain_apply none vv pp _ d col).trans ?_
  show Ideal.ofBits .f32 0x00000000#32 + _ = _
  rw [Ideal.ofBits_zero_f32, zero_add]
  rfl

theorem outA_at (o : FVec Ideal S128x512 .bf16) (r : Fin 256) (d : Fin 128) : outA (F := Ideal) o (ix3 (0 : Fin 1) r d) = o (ix2 d ⟨r.val, by omega⟩) := by
  unfold outA
  pointwise
theorem outB_at (o : FVec Ideal S128x512 .bf16) (r : Fin 256) (d : Fin 128) : outB (F := Ideal) o (ix3 (0 : Fin 1) r d) = o (ix2 d ⟨256 + r.val, by omega⟩) := by
  unfold outB
  pointwise

end Cert.KernelIdeal.Hand
end
-- ==== Proof.SoftMean.lean ====
/- A softmax-weighted mean over the extended reals: what it is does not depend on the base of the exponential or on the
   maximum taken off. -/
module

public import proofs.«01_k».proof.Proof.Spec

@[expose] public section
noncomputable section
namespace Cert.KernelIdeal.Hand
open Idealize.ShloMosaic

/-- The mean of the weights `w` of the keys up to `t` by the exponentials of the scores `a`. -/
def smax (t : ℕ) (a w : ℕ → ℝ) : ℝ := (∑ x ∈ Finset.range (t + 1), w x * Real.exp (a x)) / ∑ x ∈ Finset.range (t + 1), Real.exp (a x)

theorem ereal_sum (S : Finset ℕ) (f : ℕ → ℝ) : (∑ x ∈ S, ((f x : ℝ) : EReal)) = ((∑ x ∈ S, f x : ℝ) : EReal) := by
  induction S using Finset.cons_induction with
  | empty => simp
  | cons a S h ih => rw [Finset.sum_cons, Finset.sum_cons, ih, EReal.coe_add]

theorem sum_visible (t n : ℕ) (ht : t < n) (f : ℕ → EReal) : (∑ x ∈ Finset.range n, if x ≤ t then f x else 0) = ∑ x ∈ Finset.range (t + 1), f x := by
  rw [← Finset.sum_filter]
  congr 1
  ext x
  simp only [Finset.mem_filter, Finset.mem_range]
  omega

section
variable (E : EReal → EReal) (c : ℝ) (hc : 0 < c) (hE : ∀ y : ℝ, E (y : EReal) = ((Real.exp (c * y) : ℝ) : EReal)) (hb : E ⊥ = 0)
  (t n : ℕ) (ht : t < n) (a W : ℕ → ℝ) (s w : ℕ → EReal) (hs : ∀ x < n, s x = if x ≤ t then ((a x / c : ℝ) : EReal) else ⊥)
  (hw : ∀ x < n, w x = (W x : EReal)) (m : EReal) (hm : ∀ z, m ≤ z ↔ ∀ x < n, s x ≤ z)

include ht hs hm in
theorem max_real : ∃ M : ℝ, m = (M : EReal) := by
  obtain ⟨B, hB⟩ : ∃ B : ℝ, ∀ x ∈ Finset.range (t + 1), a x / c ≤ B := by
    have := ((Finset.range (t + 1)).image fun x => a x / c).bddAbove
    obtain ⟨B, hB⟩ := this
    exact ⟨B, fun x hx => hB (Finset.mem_coe.2 (Finset.mem_image_of_mem (fun x => a x / c) hx))⟩
  have h1 : m ≤ (B : EReal) := by
    rw [hm]
    intro x hx
    rw [hs x hx]
    split_ifs with h
    · exact EReal.coe_le_coe_iff.2 (hB x (by simp; omega))
    · exact bot_le
  have h2 : ((a 0 / c : ℝ) : EReal) ≤ m := by
    have := (hm m).1 le_rfl 0 (by omega)
    rwa [hs 0 (by omega), if_pos (Nat.zero_le _)] at this
  induction m using EReal.rec with
  | bot => exact absurd h2 (by simp)
  | coe r => exact ⟨r, rfl⟩
  | top => exact absurd h1 (by simp)

include hc hE hb ht hs hw hm in
theorem softmax_eq : Ideal.div (∑ x ∈ Finset.range n, w x * E (s x - m)) (∑ x ∈ Finset.range n, E (s x - m)) = ((smax t a W : ℝ) : EReal) := by
  obtain ⟨M, rfl⟩ := max_real c t n ht a s hs m hm
  have he : ∀ x < n, E (s x - (M : EReal)) = if x ≤ t then ((Real.exp (a x) * Real.exp (-(c * M)) : ℝ) : EReal) else 0 := by
    intro x hx
    rw [hs x hx]
    split_ifs with h
    · rw [← EReal.coe_sub, hE, ← Real.exp_add]
      congr 2
      field_simp
      ring
    · rw [EReal.bot_sub, hb]
  have h1 : (∑ x ∈ Finset.range n, E (s x - (M : EReal))) = (((∑ x ∈ Finset.range (t + 1), Real.exp (a x)) * Real.exp (-(c * M)) : ℝ) : EReal) := by
    rw [Finset.sum_congr rfl fun x hx => he x (Finset.mem_range.1 hx), sum_visible t n ht, ereal_sum, Finset.sum_mul]
  have h2 : (∑ x ∈ Finset.range n, w x * E (s x - (M : EReal))) = (((∑ x ∈ Finset.range (t + 1), W x * Real.exp (a x)) * Real.exp (-(c * M)) : ℝ) : EReal) := by
    have : ∀ x ∈ Finset.range n, w x * E (s x - (M : EReal)) = if x ≤ t then ((W x * (Real.exp (a x) * Real.exp (-(c * M))) : ℝ) : EReal) else 0 := by
      intro x hx
      rw [he x (Finset.mem_range.1 hx), hw x (Finset.mem_range.1 hx)]
      split_ifs
      · simp only [EReal.coe_mul]
      · exact mul_zero _
    rw [Finset.sum_congr rfl this, sum_visible t n ht, ereal_sum, Finset.sum_mul]
    congr 1
    exact Finset.sum_congr rfl fun x _ => by ring
  have hpos : 0 < ∑ x ∈ Finset.range (t + 1), Real.exp (a x) := Finset.sum_pos (fun x _ => Real.exp_pos _) ⟨0, by simp⟩
  rw [h1, h2, Ideal.div_coe (mul_pos hpos (Real.exp_pos _)).ne', ← EReal.coe_mul, smax]
  congr 1
  have := (Real.exp_pos (-(c * M))).ne'
  field_simp

end

theorem exp2_real (y : ℝ) : Ideal.exp2 (y : EReal) = ((Real.exp (Real.log 2 * y) : ℝ) : EReal) := by
  rw [Ideal.exp2_coe]
  congr 1
  exact Real.rpow_def_of_pos (by norm_num) y

theorem exp_real (y : ℝ) : Ideal.exp (y : EReal) = ((Real.exp (1 * y) : ℝ) : EReal) := by
  rw [Ideal.exp_coe, one_mul]

/-- A key of a count that stays below 2048. -/
def kx (x : ℕ) : Fin 2048 := ⟨x % 2048, by omega⟩

theorem kx_eq (x : ℕ) (h : x < 2048) : kx x = ⟨x, h⟩ := Fin.ext (Nat.mod_eq_of_lt h)

/-- The order of two small counts as words. -/
theorem le_bits (a b : ℕ) (ha : a < 2048) (hb : b < 2048) : IntOp.cmpi .sle (BitVec.ofNat 32 a) (BitVec.ofNat 32 b) = BitVec.ofBool (decide (a ≤ b)) := by
  have h : ∀ c < 2048, (BitVec.ofNat 32 c).toInt = (c : ℤ) := by
    intro c hc
    have h1 : (BitVec.ofNat 32 c).toNat = c := by rw [BitVec.toNat_ofNat]; omega
    rw [BitVec.toInt_eq_toNat_of_lt (by omega), h1]
  show BitVec.ofBool ((BitVec.ofNat 32 a).sle (BitVec.ofNat 32 b)) = _
  rw [BitVec.sle_eq_decide, h a ha, h b hb]
  simp

theorem select_ite {s : Shape} (p : Prop) [Decidable p] (mk : IVec s 1) (A B : FVec Ideal s .f32) (i : s.Idx) (h : mk i = BitVec.ofBool (decide p)) :
    select mk A B i = if p then A i else B i := by
  show Scalar.select (mk i) (A i) (B i) = _
  rw [h]
  by_cases hp : p
  · rw [if_pos hp, decide_eq_true hp]; exact ValueIdx.select_one _ _
  · rw [if_neg hp, decide_eq_false hp]; exact ValueIdx.select_zero _ _

/-- A sum over a block of 128 in sixteen rows of eight. -/
theorem sum_8_16 (f : ℕ → EReal) : (∑ p : Fin 8, ∑ a : Fin 16, f (a.val * 8 + p.val)) = ∑ r ∈ Finset.range 128, f r := by
  rw [Finset.sum_comm, ← Fin.sum_univ_eq_sum_range, ← Fintype.sum_prod_type', ← Equiv.sum_comp (finProdFinEquiv (m := 16) (n := 8))]
  refine Finset.sum_congr rfl fun x _ => ?_
  congr 1
  show _ = x.2.val + 8 * x.1.val
  omega

theorem sum_blocks (f : ℕ → EReal) (n : ℕ) : (∑ j ∈ Finset.range n, ∑ r ∈ Finset.range 128, f (128 * j + r)) = ∑ x ∈ Finset.range (128 * n), f x := by
  induction n with
  | zero => rfl
  | succ n ih => rw [Finset.sum_range_succ, ih, Nat.mul_succ, Finset.sum_range_add]

end Cert.KernelIdeal.Hand
end
-- ==== Proof.AttnTile.lean ====
/- The attention part's loads and stores read at an index, and the states of a tile. -/
module

public import proofs.«01_k».proof.Proof.AttnRead
public import proofs.«01_k».proof.Proof.SoftMean

@[expose] public section
noncomputable section
namespace Cert.KernelIdeal.Hand
open Idealize.ShloMosaic Idealize.ShloMosaic.TcCoe
open Cert.KernelIdeal Cert.KernelIdeal.Gen

section
variable {F : FTy → Type} [FloatOps F] [Named F] {e : EltTy}

theorem rBlk_val (n : ℕ) (hn : n < 16) (x : (rBlk n hn).shape.Idx) (a : Fin 2) : ((rBlk n hn).emb x a).val = (![128 * n, 0] : Fin 2 → ℕ) a + (x a).val := emb_unit _ _ _ x a
theorem rKs_val (i : ℕ) (hi : i < 8) (x : (rKs i hi).shape.Idx) (a : Fin 2) : ((rKs i hi).emb x a).val = (![0, 0] : Fin 2 → ℕ) a + (x a).val := emb_unit _ _ _ x a
theorem rVs_val (i : ℕ) (hi : i < 8) (x : (rVs i hi).shape.Idx) (a : Fin 2) : ((rVs i hi).emb x a).val = (![0, 0] : Fin 2 → ℕ) a + (x a).val := emb_unit _ _ _ x a
theorem rPs_val (i : ℕ) (hi : i < 8) (x : (rPs i hi).shape.Idx) (a : Fin 2) : ((rPs i hi).emb x a).val = (![0, 0] : Fin 2 → ℕ) a + (x a).val := emb_unit _ _ _ x a
theorem rQt_val (h i : ℕ) (hh : h < 4) (hi : i < 8) (x : (rQt h i hh hi).shape.Idx) (a : Fin 3) : ((rQt h i hh hi).emb x a).val = (![h, 256 * i, 0] : Fin 3 → ℕ) a + (x a).val := emb_unit _ _ _ x a
theorem rO_val (h i : ℕ) (hh : h < 4) (hi : i < 8) (x : (rO h i hh hi).shape.Idx) (a : Fin 3) : ((rO h i hh hi).emb x a).val = (![0, 256 * i, 128 * h] : Fin 3 → ℕ) a + (x a).val := emb_unit _ _ _ x a

theorem put_rBlk (X : Vec F S2048x512 e) (n : ℕ) (hn : n < 16) (w : Vec F S128x512 e) (t : Fin 2048) (d : Fin 512) :
    put X (rBlk n hn) w (ix2 t d) = if t.val / 128 = n then w (ix2 ⟨t.val % 128, by omega⟩ d) else X (ix2 t d) := by
  by_cases h : t.val / 128 = n
  · rw [if_pos h, show (ix2 t d : S2048x512.Idx) = (rBlk n hn).emb (ix2 ⟨t.val % 128, by omega⟩ d) from ?_]
    · exact put_emb X (rBlk n hn) w _
    · funext a
      refine Fin.ext ?_
      match a with
      | ⟨0, _⟩ => refine Eq.trans ?_ (rBlk_val n hn _ 0).symm; simp <;> omega
      | ⟨1, _⟩ => refine Eq.trans ?_ (rBlk_val n hn _ 1).symm; simp <;> omega
  · rw [if_neg h]
    refine put_of_not X (rBlk n hn) w _ fun x hx => h ?_
    have h1 : 128 * n + (x 0).val = t.val := (rBlk_val n hn x 0).symm.trans (congrArg Fin.val (congrFun hx 0))
    have h2 : (x 0).val < 128 := (x 0).isLt
    omega

theorem put_rO (X : Vec F S1x2048x512 e) (h' n : ℕ) (hh : h' < 4) (hn : n < 8) (w : Vec F S1x256x128 e) (t : Fin 2048) (h : Fin 4) (d : Fin 128) :
    put X (rO h' n hh hn) w (ix3 (0 : Fin 1) t (xcol h d)) = if h.val = h' ∧ t.val / 256 = n then w (ix3 (0 : Fin 1) ⟨t.val % 256, by omega⟩ d) else X (ix3 (0 : Fin 1) t (xcol h d)) := by
  by_cases hc : h.val = h' ∧ t.val / 256 = n
  · obtain ⟨hc1, hc2⟩ := hc
    rw [if_pos ⟨hc1, hc2⟩, show (ix3 (0 : Fin 1) t (xcol h d) : S1x2048x512.Idx) = (rO h' n hh hn).emb (ix3 (0 : Fin 1) ⟨t.val % 256, by omega⟩ d) from ?_]
    · exact put_emb X (rO h' n hh hn) w _
    · funext a
      refine Fin.ext ?_
      match a with
      | ⟨0, _⟩ => refine Eq.trans ?_ (rO_val h' n hh hn _ 0).symm; simp <;> omega
      | ⟨1, _⟩ => refine Eq.trans ?_ (rO_val h' n hh hn _ 1).symm; simp <;> omega
      | ⟨2, _⟩ => refine Eq.trans ?_ (rO_val h' n hh hn _ 2).symm; simp [xcol] <;> omega
  · rw [if_neg hc]
    refine put_of_not X (rO h' n hh hn) w _ fun x hx => hc ?_
    have h1 : 256 * n + (x 1).val = t.val := (rO_val h' n hh hn x 1).symm.trans (congrArg Fin.val (congrFun hx 1))
    have h2 : (x 1).val < 256 := (x 1).isLt
    have h3 : 128 * h' + (x 2).val = h.val * 128 + d.val := (rO_val h' n hh hn x 2).symm.trans (congrArg Fin.val (congrFun hx 2))
    have h4 : (x 2).val < 128 := (x 2).isLt
    omega

theorem get_rBlk (X : Vec F S2048x512 e) (n : ℕ) (hn : n < 16) (r : Fin 128) (d : Fin 512) : get X (rBlk n hn) (ix2 r d) = X (ix2 ⟨128 * n + r.val, by omega⟩ d) := by
  refine congrArg X ?_
  funext a
  refine Fin.ext ?_
  match a with
  | ⟨0, _⟩ => refine (rBlk_val n hn _ 0).trans ?_; simp <;> omega
  | ⟨1, _⟩ => refine (rBlk_val n hn _ 1).trans ?_; simp <;> omega

theorem get_rFk (X : Vec F S16x128 e) (n : ℕ) (hn : n < 16) (d : Fin 128) : get X (rFk n hn) (ix2 (0 : Fin 1) d) = X (ix2 ⟨n, hn⟩ d) := by
  refine congrArg X ?_
  funext a
  refine Fin.ext ?_
  match a with
  | ⟨0, _⟩ => refine (rFk_val n hn _ 0).trans ?_; simp <;> omega
  | ⟨1, _⟩ => refine (rFk_val n hn _ 1).trans ?_; simp <;> omega

theorem get_rKs (X : Vec F S2048x128 e) (i : ℕ) (hi : i < 8) (r : Fin (256 * (i + 1))) (d : Fin 128) : get X (rKs i hi) (ix2 r d) = X (ix2 ⟨r.val, by omega⟩ d) := by
  refine congrArg X ?_
  funext a
  refine Fin.ext ?_
  match a with
  | ⟨0, _⟩ => refine (rKs_val i hi _ 0).trans ?_; simp <;> omega
  | ⟨1, _⟩ => refine (rKs_val i hi _ 1).trans ?_; simp <;> omega

theorem get_rVs (X : Vec F S128x2048 e) (i : ℕ) (hi : i < 8) (d : Fin 128) (r : Fin (256 * (i + 1))) : get X (rVs i hi) (ix2 d r) = X (ix2 d ⟨r.val, by omega⟩) := by
  refine congrArg X ?_
  funext a
  refine Fin.ext ?_
  match a with
  | ⟨0, _⟩ => refine (rVs_val i hi _ 0).trans ?_; simp <;> omega
  | ⟨1, _⟩ => refine (rVs_val i hi _ 1).trans ?_; simp <;> omega

theorem get_rPs (X : Vec F S2048x512 e) (i : ℕ) (hi : i < 8) (r : Fin (256 * (i + 1))) (d : Fin 512) : get X (rPs i hi) (ix2 r d) = X (ix2 ⟨r.val, by omega⟩ d) := by
  refine congrArg X ?_
  funext a
  refine Fin.ext ?_
  match a with
  | ⟨0, _⟩ => refine (rPs_val i hi _ 0).trans ?_; simp <;> omega
  | ⟨1, _⟩ => refine (rPs_val i hi _ 1).trans ?_; simp <;> omega

theorem get_rQt (X : Vec F S4x2048x128 e) (h i : ℕ) (hh : h < 4) (hi : i < 8) (r : Fin 256) (d : Fin 128) : get X (rQt h i hh hi) (ix3 (0 : Fin 1) r d) = X (ix3 ⟨h, hh⟩ ⟨256 * i + r.val, by omega⟩ d) := by
  refine congrArg X ?_
  funext a
  refine Fin.ext ?_
  match a with
  | ⟨0, _⟩ => refine (rQt_val h i hh hi _ 0).trans ?_; simp <;> omega
  | ⟨1, _⟩ => refine (rQt_val h i hh hi _ 1).trans ?_; simp <;> omega
  | ⟨2, _⟩ => refine (rQt_val h i hh hi _ 2).trans ?_; simp <;> omega

theorem castBlk {φ : FTy} (x : FVec F S128x512 φ) (r : Fin 128) (d : Fin 512) : (shapeCast S128x512 x shapeCasts_S128x512_S128x512 : FVec F S128x512 φ) (ix2 r d) = x (ix2 r d) := by
  pointwise
end

/-! ## The scores of a tile -/

theorem mask_off (o : ℕ) (ho : o ≤ 128) (r : Fin 128) (col : Fin 512) : maskAt (BitVec.ofNat 32 o) (ix2 r col) = BitVec.ofBool (decide (o + r.val ≤ col.val % 256)) := by
  rw [mask_at, show IntOp.addi (BitVec.ofNat 32 r.val) (BitVec.ofNat 32 o) = BitVec.ofNat 32 (o + r.val) from by
    rw [Nat.add_comm]; exact (BitVec.ofNat_add _ _).symm]
  exact le_bits _ _ (by omega) (by omega)

section
variable (i : ℕ) (hi : i < 8) (d : FVec Ideal (Shape.mk 2 ![256 * (i + 1), 512]) .f32) (qrow : FVec Ideal S1x512 .f32) (s : St Ideal)

theorem score_at (n : ℕ) (hn : n < 2 * (i + 1)) (x : FVec Ideal S1x128 .f32) (r : Fin 128) (col : Fin 512) :
    scoreOf (F := Ideal) i n hn d x qrow (ix2 r col) = if 128 * n + r.val ≤ 256 * i + col.val % 256 then
      d (ix2 ⟨128 * n + r.val, by omega⟩ col) * (x (ix2 (0 : Fin 1) ⟨col.val % 128, by omega⟩) * qrow (ix2 (0 : Fin 1) col)) else ⊥ := by
  rw [← raw_at i n hn d x qrow r col]
  unfold scoreOf
  by_cases h1 : n < 2 * i
  · rw [decide_eq_true h1]
    exact (if_pos (by omega)).symm
  · rw [decide_eq_false h1]
    by_cases h2 : n = 2 * i
    · rw [decide_eq_true h2]
      refine (select_ite (0 + r.val ≤ col.val % 256) _ _ _ _ (mask_off 0 (by omega) r col)).trans ?_
      exact if_congr (by omega) rfl bits_bot
    · rw [decide_eq_false h2]
      refine (select_ite (128 + r.val ≤ col.val % 256) _ _ _ _ (mask_off 128 (by omega) r col)).trans ?_
      exact if_congr (by omega) rfl bits_bot

/-- A key block's scores at a state. -/
def scv (n : ℕ) (hn : n < 2 * (i + 1)) : FVec Ideal S128x512 .f32 := scoreOf i n hn d (get (s .fk) (rFk n (by omega))) qrow

theorem scoreSt_sc (n : ℕ) (hn : n ≤ 2 * (i + 1)) (t : Fin 2048) (col : Fin 512) (h : t.val / 128 < n) :
    scoreSt i hi d qrow s n hn .sc (ix2 t col) = scv i hi d qrow s (t.val / 128) (by omega) (ix2 ⟨t.val % 128, by omega⟩ col) := by
  induction n with
  | zero => omega
  | succ n ih =>
    rw [scoreSt, upd_same, scoreSt_ne (n := .fk) (by decide)]
    refine (put_rBlk _ n _ _ t col).trans ?_
    by_cases hc : t.val / 128 = n
    · subst hc; rw [if_pos rfl]; exact castBlk _ _ _
    · rw [if_neg hc]; exact ih _ (by omega)

theorem maxAt_le (n : ℕ) (hn : n ≤ 2 * (i + 1)) (p : Fin 8) (col : Fin 512) (c : EReal) :
    maxAt i hi d qrow s n hn (ix2 p col) ≤ c ↔ ∀ j (hj : j < n), ∀ a : Fin 16, scv i hi d qrow s j (by omega) (ix2 ⟨a.val * 8 + p.val, by omega⟩ col) ≤ c := by
  induction n with
  | zero =>
    rw [show maxAt i hi d qrow s 0 hn (ix2 p col) = ⊥ from bits_bot]
    exact ⟨fun _ j hj => absurd hj (by omega), fun _ => bot_le⟩
  | succ n ih =>
    rw [maxAt, maxStep_at, max_le_iff, ih, iSup_le_iff, scoreSt_ne (n := .fk) (by decide)]
    constructor
    · rintro ⟨h1, h2⟩ j hj
      by_cases hjn : j = n
      · subst hjn; exact h2
      · exact h1 j (by omega)
    · intro h
      exact ⟨fun j hj => h j (by omega), h n (by omega)⟩
end

/-! ## The weights of a tile -/

section
variable (i : ℕ) (hi : i < 8) (s : St Ideal) (m : FVec Ideal S1x512 .f32)

/-- A key's weight at a state. -/
def wv (col : Fin 512) (x : ℕ) : EReal := Ideal.exp2 (s .sc (ix2 (kx x) col) - m (ix2 (0 : Fin 1) col))

theorem expBlk (n : ℕ) (hn : n < 16) (r : Fin 128) (col : Fin 512) : expOf (F := Ideal) (get (s .sc) (rBlk n hn)) m (ix2 r col) = wv s m col (128 * n + r.val) := by
  rw [wv, kx_eq _ (by omega)]
  exact (exp_at _ _ r col).trans (congrArg Ideal.exp2 (congrArg (· - _) (get_rBlk (s .sc) n hn r col)))

theorem expSt_p8 (n : ℕ) (hn : n ≤ 2 * (i + 1)) (t : Fin 2048) (col : Fin 512) (h : t.val / 128 < n) :
    expSt i hi s m n hn .p8 (ix2 t col) = wv s m col t.val := by
  induction n with
  | zero => omega
  | succ n ih =>
    rw [expSt, upd_same, expSt_ne (n := .sc) (by decide)]
    refine (put_rBlk _ n _ _ t col).trans ?_
    by_cases hc : t.val / 128 = n
    · subst hc; rw [if_pos rfl]
      refine (castBlk _ _ _).trans ((expBlk s m (t.val / 128) (by omega) ⟨t.val % 128, by omega⟩ col).trans ?_)
      exact congrArg (wv s m col) (Nat.div_add_mod t.val 128)
    · rw [if_neg hc]; exact ih _ (by omega)

theorem sumAt_at (n : ℕ) (hn : n ≤ 2 * (i + 1)) (p : Fin 8) (col : Fin 512) :
    sumAt i hi s m n hn (ix2 p col) = ∑ j ∈ Finset.range n, ∑ a : Fin 16, wv s m col (128 * j + (a.val * 8 + p.val)) := by
  induction n with
  | zero => exact Ideal.ofBits_zero_f32
  | succ n ih =>
    rw [sumAt, sumStep_at, ih, Finset.sum_range_succ, expSt_ne (n := .sc) (by decide)]
    refine congrArg (_ + ·) (Finset.sum_congr rfl fun a _ => ?_)
    exact expBlk s m n (by omega) ⟨a.val * 8 + p.val, by omega⟩ col
end

end Cert.KernelIdeal.Hand
end
-- ==== Proof.AttnTileOut.lean ====
/- A tile's result, from the arrays it reads. -/
module

public import proofs.«01_k».proof.Proof.AttnTile

@[expose] public section
noncomputable section
namespace Cert.KernelIdeal.Hand
open Idealize.ShloMosaic Idealize.ShloMosaic.TcCoe
open Cert.KernelIdeal Cert.KernelIdeal.Gen

section
variable (i : ℕ) (hi : i < 8) (d : FVec Ideal (Shape.mk 2 ![256 * (i + 1), 512]) .f32) (qrow : FVec Ideal S1x512 .f32) (s : St Ideal)

theorem scv_congr (n n' : ℕ) (hn hn') (r r' : Fin 128) (col : Fin 512) (e : n = n') (e' : r.val = r'.val) :
    scv i hi d qrow s n hn (ix2 r col) = scv i hi d qrow s n' hn' (ix2 r' col) := by
  subst e
  rw [Fin.ext e']

theorem scoreSt_at (x : ℕ) (hx : x < 256 * (i + 1)) (col : Fin 512) :
    scoreSt i hi d qrow s (2 * (i + 1)) le_rfl .sc (ix2 (kx x) col) = scv i hi d qrow s (x / 128) (by omega) (ix2 ⟨x % 128, by omega⟩ col) := by
  rw [kx_eq x (by omega)]
  exact scoreSt_sc i hi d qrow s _ le_rfl ⟨x, by omega⟩ col (by show x / 128 < _; omega)

theorem max_iff (col : Fin 512) (c : EReal) : maxEnd (maxAt i hi d qrow s (2 * (i + 1)) le_rfl) (ix2 (0 : Fin 1) col) ≤ c ↔
    ∀ x < 256 * (i + 1), scoreSt i hi d qrow s (2 * (i + 1)) le_rfl .sc (ix2 (kx x) col) ≤ c := by
  rw [maxEnd_at, iSup_le_iff]
  constructor
  · intro H x hx
    have := (maxAt_le i hi d qrow s _ _ _ _ _).1 (H ⟨x % 128 % 8, by omega⟩) (x / 128) (by omega) ⟨x % 128 / 8, by omega⟩
    rw [scoreSt_at i hi d qrow s x hx]
    exact le_of_eq_of_le (scv_congr i hi d qrow s _ _ _ _ _ _ _ rfl (by show x % 128 = x % 128 / 8 * 8 + x % 128 % 8; omega)) this
  · intro H p
    rw [maxAt_le]
    intro j hj a
    have := H (128 * j + (a.val * 8 + p.val)) (by omega)
    rw [scoreSt_at i hi d qrow s _ (by omega)] at this
    exact le_of_eq_of_le (scv_congr i hi d qrow s _ _ _ _ _ _ _ (by omega) (by show a.val * 8 + p.val = (128 * j + (a.val * 8 + p.val)) % 128; omega)) this

theorem scv_at (x : ℕ) (hx : x < 256 * (i + 1)) (col : Fin 512) : scv i hi d qrow s (x / 128) (by omega) (ix2 ⟨x % 128, by omega⟩ col) =
    if x ≤ 256 * i + col.val % 256 then d (ix2 ⟨x, hx⟩ col) * (s .fk (ix2 ⟨x / 128, by omega⟩ ⟨col.val % 128, by omega⟩) * qrow (ix2 (0 : Fin 1) col)) else ⊥ := by
  refine (score_at i d qrow (x / 128) (by omega) (get (s .fk) (rFk (x / 128) (by omega))) ⟨x % 128, by omega⟩ col).trans ?_
  refine if_congr (by show 128 * (x / 128) + x % 128 ≤ _ ↔ _; omega) ?_ rfl
  refine congrArg₂ (· * ·) (congrArg d (congrArg (fun z => ix2 z col) (Fin.ext (by show 128 * (x / 128) + x % 128 = x; omega)))) (congrArg (· * _) (get_rFk (s .fk) (x / 128) _ _))

theorem sum_tile (m : FVec Ideal S1x512 .f32) (col : Fin 512) : sumEnd (sumAt i hi s m (2 * (i + 1)) le_rfl) (ix2 (0 : Fin 1) col) =
    ∑ x ∈ Finset.range (256 * (i + 1)), wv s m col x := by
  rw [sumEnd_at]
  simp only [sumAt_at]
  rw [Finset.sum_comm, show 256 * (i + 1) = 128 * (2 * (i + 1)) by omega, ← sum_blocks]
  exact Finset.sum_congr rfl fun j _ => sum_8_16 (fun r => wv s m col (128 * j + r))
end

section
variable (i : ℕ) (hi : i < 8) (qrow : FVec Ideal S1x512 .f32) (s : St Ideal) (h : ℕ) (hh : h + 1 < 4)

/-- The query code of a tile's column. -/
def qcd (col : Fin 512) (d : Fin 128) : EReal := if col.val < 256 then s .q8 (ix3 ⟨h, by omega⟩ ⟨256 * i + col.val % 256, by omega⟩ d)
  else s .q8 (ix3 ⟨h + 1, hh⟩ ⟨256 * i + col.val % 256, by omega⟩ d)

theorem dotsAt_at (x : ℕ) (hx : x < 256 * (i + 1)) (col : Fin 512) : dotsAt i hi s h hh (ix2 ⟨x, hx⟩ col) =
    ∑ d : Fin 128, s .k8 (ix2 (kx x) d) * qcd i hi s h hh col d := by
  refine (dots_at i (get (s .k8) (rKs i hi)) (qtOf (get (s .q8) (rQt h i (by omega) hi)) (get (s .q8) (rQt (h + 1) i hh hi))) ⟨x, hx⟩ col).trans ?_
  rw [kx_eq x (by omega)]
  refine Finset.sum_congr rfl fun d _ => congrArg₂ (· * ·) (get_rKs (s .k8) i hi ⟨x, hx⟩ d) ?_
  refine (qt_at (get (s .q8) (rQt h i (by omega) hi)) (get (s .q8) (rQt (h + 1) i hh hi)) col d).trans ?_
  rw [qcd]
  split_ifs
  · exact get_rQt (s .q8) h i _ hi _ d
  · exact get_rQt (s .q8) (h + 1) i _ hi _ d

theorem tileScore (x : ℕ) (hx : x < 256 * (i + 1)) (col : Fin 512) : tileSt1 i hi qrow s h hh .sc (ix2 (kx x) col) =
    if x ≤ 256 * i + col.val % 256 then (∑ d : Fin 128, s .k8 (ix2 (kx x) d) * qcd i hi s h hh col d) *
      (s .fk (ix2 ⟨x / 128, by omega⟩ ⟨col.val % 128, by omega⟩) * qrow (ix2 (0 : Fin 1) col)) else ⊥ := by
  rw [tileSt1, scoreSt_at _ _ _ _ _ x hx, scv_at _ _ _ _ _ x hx, dotsAt_at]

theorem tileOut_at (d : Fin 128) (col : Fin 512) : tileOut i hi qrow s h hh (ix2 d col) =
    Ideal.div (∑ x ∈ Finset.range (256 * (i + 1)), s .vt (ix2 d (kx x)) * wv (tileSt1 i hi qrow s h hh) (tileMax i hi qrow s h hh) col x)
      (∑ x ∈ Finset.range (256 * (i + 1)), wv (tileSt1 i hi qrow s h hh) (tileMax i hi qrow s h hh) col x) := by
  refine (out_at i (get (tileSt2 i hi qrow s h hh .vt) (rVs i hi)) (get (tileSt2 i hi qrow s h hh .p8) (rPs i hi)) (tileSum i hi qrow s h hh) d col).trans ?_
  rw [tileSum, sum_tile]
  refine congrArg (fun z => Ideal.div z _) ?_
  rw [← Fin.sum_univ_eq_sum_range (fun x => s .vt (ix2 d (kx x)) * wv (tileSt1 i hi qrow s h hh) (tileMax i hi qrow s h hh) col x)]
  refine Finset.sum_congr rfl fun x _ => congrArg₂ (· * ·) ?_ ?_
  · refine (get_rVs _ i hi d x).trans ?_
    rw [tileSt2, expSt_ne (n := .vt) (by decide), tileSt1, scoreSt_ne (n := .vt) (by decide), kx_eq x.val (by omega)]
  · refine (get_rPs _ i hi x col).trans ?_
    rw [tileSt2]
    exact expSt_p8 i hi _ _ _ _ ⟨x.val, by omega⟩ col (by show x.val / 128 < _; omega)

/-- A tile's result at a column, given the real numbers its arrays hold. -/
theorem tile_real (d : Fin 128) (col : Fin 512) (a W : ℕ → ℝ)
    (ha : ∀ x < 256 * (i + 1), (∑ d : Fin 128, s .k8 (ix2 (kx x) d) * qcd i hi s h hh col d) *
      (s .fk (ix2 ⟨(kx x).val / 128, by omega⟩ ⟨col.val % 128, by omega⟩) * qrow (ix2 (0 : Fin 1) col)) = ((a x / Real.log 2 : ℝ) : EReal))
    (hW : ∀ x < 256 * (i + 1), s .vt (ix2 d (kx x)) = (W x : EReal)) :
    tileOut i hi qrow s h hh (ix2 d col) = ((smax (256 * i + col.val % 256) a W : ℝ) : EReal) := by
  rw [tileOut_at]
  refine softmax_eq Ideal.exp2 (Real.log 2) (Real.log_pos (by norm_num)) exp2_real Ideal.exp2_bot (256 * i + col.val % 256) (256 * (i + 1)) (by omega) a W
    (fun x => tileSt1 i hi qrow s h hh .sc (ix2 (kx x) col)) (fun x => s .vt (ix2 d (kx x))) (fun x hx => ?_) hW
    (tileMax i hi qrow s h hh (ix2 (0 : Fin 1) col)) (fun z => max_iff i hi _ qrow s col z)
  rw [← ha x hx]
  refine (tileScore i hi qrow s h hh x hx col).trans ?_
  have e : (kx x).val = x := by rw [kx_eq x (by omega)]
  simp only [e]
end

end Cert.KernelIdeal.Hand
end
-- ==== Proof.AttnSpec.lean ====
/- What the attention's result is, over the reals. -/
module

public import proofs.«01_k».proof.Proof.SoftMean
public import proofs.«01_k».proof.Proof.Quant

@[expose] public section
noncomputable section
namespace Cert.KernelIdeal.Hand
open Idealize.ShloMosaic

/-- The block of a key. -/
def kblk (x : ℕ) : Fin 16 := ⟨(kx x).val / 128, by omega⟩

/-- A code and a scale as real numbers. -/
def clR (y i : EReal) : ℝ := (cl y i).toReal
def scR (a : EReal) : ℝ := (scE a).toReal

theorem clip_hi : ∃ r : ℝ, Ideal.ofBits .f32 0x43E00000#32 = (r : EReal) := ⟨_, by simp [Ideal.ofBits, Ideal.ieee, -EReal.coe_mul]; rfl⟩
theorem clip_lo : ∃ r : ℝ, Ideal.ofBits .f32 0xC3E00000#32 = (r : EReal) := ⟨_, by simp [Ideal.ofBits, Ideal.ieee, -EReal.coe_mul]; rfl⟩

theorem cl_coe (y i : EReal) : cl y i = (clR y i : EReal) := by
  obtain ⟨u, hu⟩ := clip_hi
  obtain ⟨l, hl⟩ := clip_lo
  refine (EReal.coe_toReal ?_ ?_).symm
  · unfold cl
    rw [hu]
    exact ne_top_of_le_ne_top (EReal.coe_ne_top u) (min_le_left _ _)
  · unfold cl
    rw [hu, hl]
    refine ne_bot_of_gt (b := ((min u l - 1 : ℝ) : EReal)) ?_
    refine lt_min (EReal.coe_lt_coe_iff.2 (by have := min_le_left u l; linarith)) (lt_max_of_lt_left (EReal.coe_lt_coe_iff.2 (by have := min_le_right u l; linarith)))

theorem scE_coe (a : EReal) (h0 : 0 ≤ a) (h1 : a ≤ Ideal.ofBits .f32 0x7F7F0000#32) : scE a = (scR a : EReal) := by
  obtain ⟨r, -, -, e, -⟩ := quant a h0 h1
  have : scE a = (r : EReal) := e
  rw [scR, this, EReal.toReal_coe]

theorem ab_nn (x : EReal) : 0 ≤ ab x := by
  rw [show ab x = max x (-x) from Ideal.absf_def x]
  rcases le_total 0 x with h | h
  · exact le_max_of_le_left h
  · exact le_max_of_le_right (by simpa using EReal.neg_le_neg_iff.2 h)

theorem kScale (A : KArr) (hA : ∀ i, ab (A i) ≤ Ideal.ofBits .f32 0x7F7F0000#32) (b j g) : scE (kAmax A b j g) = (scR (kAmax A b j g) : EReal) :=
  scE_coe _ ((ab_nn _).trans ((le_iSup (fun d => ab (A (i3 b (tok j 0) (kcol g d)))) 0).trans
    (le_iSup (fun r : Fin 128 => ⨆ d : Fin 128, ab (A (i3 b (tok j r) (kcol g d)))) 0))) (iSup_le fun _ => iSup_le fun _ => hA _)
theorem qScale (A : QArr) (hA : ∀ i, ab (A i) ≤ Ideal.ofBits .f32 0x7F7F0000#32) (b h) : scE (qAmax A b h) = (scR (qAmax A b h) : EReal) :=
  scE_coe _ ((ab_nn _).trans ((le_iSup (fun d => ab (A (i3 b 0 (qcol h d)))) 0).trans
    (le_iSup (fun t : Fin 2048 => ⨆ d : Fin 128, ab (A (i3 b t (qcol h d)))) 0))) (iSup_le fun _ => iSup_le fun _ => hA _)

variable (X : QArr) (K V : KArr) (b : Fin 8) (g : Fin 8) (h : Fin 32) (t : Fin 2048) (d : Fin 128)

/-- The product of a key's codes with a query's, -/
def dotR (x : ℕ) : ℝ := ∑ d : Fin 128, clR (K (i3 b (kx x) (kcol g d))) (ivE (kAmax K b (kblk x) g)) * clR (X (i3 b t (qcol h d))) (ivE (qAmax X b h))
/-- their score, -/
def aOf (x : ℕ) : ℝ := dotR X K b g h t x * (scR (qAmax X b h) / Real.sqrt 128 * scR (kAmax K b (kblk x) g))
/-- a scaled value, -/
def wOf (x : ℕ) : ℝ := clR (V (i3 b (kx x) (kcol g d))) (ivE (kAmax V b (kblk x) g)) * scR (kAmax V b (kblk x) g)
/-- and a result. -/
def oAt : EReal := ((smax t.val (aOf X K b g h t) (wOf V b g d) : ℝ) : EReal)

theorem fin_sum_coe {n : ℕ} (f : Fin n → ℝ) : (∑ x, ((f x : ℝ) : EReal)) = ((∑ x, f x : ℝ) : EReal) := by
  have : ∀ S : Finset (Fin n), (∑ x ∈ S, ((f x : ℝ) : EReal)) = ((∑ x ∈ S, f x : ℝ) : EReal) := by
    intro S
    induction S using Finset.cons_induction with
    | empty => simp
    | cons a S h ih => rw [Finset.sum_cons, Finset.sum_cons, ih, EReal.coe_add]
  exact this _

theorem dotR_eq (x : ℕ) : (∑ d : Fin 128, cl (K (i3 b (kx x) (kcol g d))) (ivE (kAmax K b (kblk x) g)) * cl (X (i3 b t (qcol h d))) (ivE (qAmax X b h))) = (dotR X K b g h t x : EReal) := by
  rw [dotR, ← fin_sum_coe]
  exact Finset.sum_congr rfl fun d _ => by rw [cl_coe, cl_coe, EReal.coe_mul]

theorem sum_kx (n : ℕ) (hn : n ≤ 2048) (G : Fin 2048 → EReal) : (∑ j : Fin n, G ⟨j.val, by omega⟩) = ∑ x ∈ Finset.range n, G (kx x) := by
  rw [← Fin.sum_univ_eq_sum_range (fun x => G (kx x)) n]
  exact Finset.sum_congr rfl fun j _ => congrArg G (kx_eq j.val (by omega)).symm

end Cert.KernelIdeal.Hand
end
-- ==== Proof.AttnOut.lean ====
/- The attention's result that the body leaves. -/
module

public import proofs.«01_k».proof.Proof.AttnTileOut
public import proofs.«01_k».proof.Proof.AttnSpec
public import proofs.«01_k».proof.Proof.Arrays

@[expose] public section
noncomputable section
namespace Cert.KernelIdeal.Hand
open Idealize.ShloMosaic Idealize.ShloMosaic.TcCoe
open Cert.KernelIdeal Cert.KernelIdeal.Gen

/-! ## Where a result lies -/

section
variable (s : St Ideal)

theorem tileSt_o (i : ℕ) (hi : i < 8) (row : FVec Ideal S1x512 .f32) (h0 : ℕ) (hh : h0 + 1 < 4) (t : Fin 2048) (h : Fin 4) (d : Fin 128) :
    tileSt i hi row s h0 hh .o (ix3 (0 : Fin 1) t (xcol h d)) =
      if h.val = h0 + 1 ∧ t.val / 256 = i then tileOut i hi row s h0 hh (ix2 d ⟨256 + t.val % 256, by omega⟩)
      else if h.val = h0 ∧ t.val / 256 = i then tileOut i hi row s h0 hh (ix2 d ⟨t.val % 256, by omega⟩)
      else s .o (ix3 (0 : Fin 1) t (xcol h d)) := by
  rw [tileSt, upd_same]
  refine (put_rO _ (h0 + 1) i hh hi _ t h d).trans ?_
  refine ite_congr rfl (fun _ => outB_at _ _ d) fun _ => ?_
  rw [upd_same]
  refine (put_rO _ h0 i (by omega) hi _ t h d).trans ?_
  refine ite_congr rfl (fun _ => outA_at _ _ d) fun _ => ?_
  rw [tileSt2, expSt_ne (n := .o) (by decide), tileSt1, scoreSt_ne (n := .o) (by decide)]

/-- The column of a tile that a pair's head and a token take. -/
def pcol (h0 : ℕ) (h : Fin 4) (t : Fin 2048) (_ : h.val ≤ h0 + 1) (_ : h0 ≤ h.val) : Fin 512 := ⟨(h.val - h0) * 256 + t.val % 256, by
  have : h.val - h0 ≤ 1 := by omega
  have := Nat.mul_le_mul_right 256 this
  omega⟩

theorem pairSt_o (row : FVec Ideal S1x512 .f32) (h0 : ℕ) (hh : h0 + 1 < 4) (n : ℕ) (hn : n ≤ 8) (t : Fin 2048) (h : Fin 4) (d : Fin 128) (ht : t.val / 256 < n)
    (h1 : h.val ≤ h0 + 1) (h2 : h0 ≤ h.val) :
    pairSt s row h0 hh n hn .o (ix3 (0 : Fin 1) t (xcol h d)) =
      tileOut (t.val / 256) (by omega) row (pairSt s row h0 hh (t.val / 256) (by omega)) h0 hh (ix2 d (pcol h0 h t h1 h2)) := by
  induction n with
  | zero => omega
  | succ n ih =>
    rw [pairSt, tileSt_o]
    by_cases hc : t.val / 256 = n
    · subst hc
      by_cases hA : h.val = h0 + 1
      · rw [if_pos ⟨hA, rfl⟩]
        exact congrArg (tileOut _ _ row _ h0 hh) (congrArg (ix2 d) (Fin.ext (by show 256 + _ = (h.val - h0) * 256 + _; rw [hA, Nat.add_sub_cancel_left])))
      · have hB : h.val = h0 := by omega
        rw [if_neg (fun q => hA q.1), if_pos ⟨hB, rfl⟩]
        exact congrArg (tileOut _ _ row _ h0 hh) (congrArg (ix2 d) (Fin.ext (by show _ = (h.val - h0) * 256 + _; rw [hB, Nat.sub_self, Nat.zero_mul, Nat.zero_add])))
    · rw [if_neg (fun q => hc q.2), if_neg (fun q => hc q.2)]
      exact ih _ (by omega)

theorem pairSt_other (row : FVec Ideal S1x512 .f32) (h0 : ℕ) (hh : h0 + 1 < 4) (n : ℕ) (hn : n ≤ 8) (t : Fin 2048) (h : Fin 4) (d : Fin 128) (h1 : h.val < h0) :
    pairSt s row h0 hh n hn .o (ix3 (0 : Fin 1) t (xcol h d)) = s .o (ix3 (0 : Fin 1) t (xcol h d)) := by
  induction n with
  | zero => rfl
  | succ n ih => rw [pairSt, tileSt_o, if_neg (fun q => by omega), if_neg (fun q => by omega), ih]

/-- A head's result is a tile's, at a state that holds the quantised arrays. -/
theorem endSt_o (t : Fin 2048) (h : Fin 4) (d : Fin 128) : ∃ (h0 : ℕ) (hh : h0 + 1 < 4) (h1 : h.val ≤ h0 + 1) (h2 : h0 ≤ h.val) (s' : St Ideal),
    (∀ n : Mn, (n ≠ .sc ∧ n ≠ .p8 ∧ n ≠ .o) → s' n = qSt s 4 le_rfl n) ∧
    endSt s .o (ix3 (0 : Fin 1) t (xcol h d)) = tileOut (t.val / 256) (by omega) (qrow s h0 hh) s' h0 hh (ix2 d (pcol h0 h t h1 h2)) := by
  by_cases hc : h.val < 2
  · refine ⟨0, by decide, by omega, by omega, pairSt (qSt s 4 le_rfl) (qrow s 0 (by decide)) 0 (by decide) (t.val / 256) (by omega), fun n hn => ?_, ?_⟩
    · exact pairSt_ne hn _ _ _ _ _ _
    · rw [endSt, pairSt_other _ _ _ _ _ _ _ _ _ (by omega)]
      exact pairSt_o _ _ 0 (by decide) 8 le_rfl t h d (by omega) _ _
  · refine ⟨2, by decide, by omega, by omega, pairSt (pairSt (qSt s 4 le_rfl) (qrow s 0 (by decide)) 0 (by decide) 8 le_rfl) (qrow s 2 (by decide)) 2 (by decide) (t.val / 256) (by omega), fun n hn => ?_, ?_⟩
    · exact (pairSt_ne hn _ _ _ _ _ _).trans (pairSt_ne hn _ _ _ _ _ _)
    · rw [endSt]
      exact pairSt_o _ _ 2 (by decide) 8 le_rfl t h d (by omega) _ _
end

/-! ## The factors -/

theorem facOf_at (sc : FVec Ideal S1x1 .f32) (l : Fin 128) : facOf (F := Ideal) sc (ix2 (0 : Fin 1) l) =
    sc (ix2 (0 : Fin 1) (0 : Fin 1)) * (((Real.sqrt 128)⁻¹ * (Real.log 2)⁻¹ : ℝ) : EReal) := by
  unfold facOf
  rw [ValueIdx.mulf_apply, row_at]
  exact congrArg (_ * ·) (IdealRules.named_const.ideal_named_scalar _ _ _ _ rfl)

theorem vtOf_at (codes : FVec Ideal S128x128 .fp8e4m3) (sc : FVec Ideal S1x1 .f32) (d l : Fin 128) :
    vtOf (F := Ideal) codes sc (ix2 d l) = codes (ix2 l d) * sc (ix2 (0 : Fin 1) (0 : Fin 1)) := by
  unfold vtOf
  pointwise

theorem row256_at (sc : FVec Ideal S1x1 .f32) (l : Fin 256) : row256 (F := Ideal) sc (ix2 (0 : Fin 1) l) = sc (ix2 (0 : Fin 1) (0 : Fin 1)) := by
  unfold row256
  pointwise

theorem cat_at (x y : FVec Ideal S1x256 .f32) (col : Fin 512) : (concatenate S1x512 1 [⟨S1x256, x⟩, ⟨S1x256, y⟩] concatenates_S1x256_S1x256_S1x512_d1 : FVec Ideal S1x512 .f32) (ix2 (0 : Fin 1) col) =
    if h : col.val < 256 then x (ix2 (0 : Fin 1) ⟨col.val, h⟩) else y (ix2 (0 : Fin 1) ⟨col.val - 256, by omega⟩) := by
  pointwise

section
variable (s : St Ideal) (hx : ∀ i, ab (s .x i) ≤ big) (hk : ∀ i, ab (s .k i) ≤ big) (hv : ∀ i, ab (s .v i) ≤ big)

include hx in
theorem qscale_at (h : ℕ) (hh : h < 4) (l : Fin 256) : qscale s h hh (ix2 (0 : Fin 1) l) = scE (hMax (s .x) ⟨h, hh⟩) := by
  unfold qscale
  rw [row256_at, fieldQ_q]
  exact (scQ s hx ⟨h, hh⟩ _).1

include hx in
theorem qrow_at (h0 : ℕ) (hh : h0 + 1 < 4) (h : Fin 4) (t : Fin 2048) (h1 : h.val ≤ h0 + 1) (h2 : h0 ≤ h.val) :
    qrow s h0 hh (ix2 (0 : Fin 1) (pcol h0 h t h1 h2)) = scE (hMax (s .x) h) := by
  refine (cat_at (qscale s h0 (by omega)) (qscale s (h0 + 1) hh) (pcol h0 h t h1 h2)).trans ?_
  by_cases hA : h.val = h0
  · rw [dif_pos (by show (h.val - h0) * 256 + t.val % 256 < 256; rw [hA, Nat.sub_self]; omega), qscale_at s hx]
    exact congrArg (fun z => scE (hMax (s .x) z)) (Fin.ext hA.symm)
  · have hB : h.val - h0 = 1 := by omega
    rw [dif_neg (by show ¬ (h.val - h0) * 256 + t.val % 256 < 256; rw [hB]; omega), qscale_at s hx]
    exact congrArg (fun z => scE (hMax (s .x) z)) (Fin.ext (by show h0 + 1 = h.val; omega))

include hk in
theorem q_k8 (x : ℕ) (d : Fin 128) : qSt s 4 le_rfl .k8 (ix2 (kx x) d) = cl (s .k (ix3 (0 : Fin 1) (kx x) d)) (ivE (bMax (s .k) (kblk x))) := by
  rw [qSt_ne _ _ _ (by decide)]
  exact (kvSt_k8 s 16 le_rfl (kx x) d (by omega)).trans (codeK s hk (kx x) d)
include hk in
theorem q_fk (x : ℕ) (l : Fin 128) : qSt s 4 le_rfl .fk (ix2 (kblk x) l) = scE (bMax (s .k) (kblk x)) * (((Real.sqrt 128)⁻¹ * (Real.log 2)⁻¹ : ℝ) : EReal) := by
  rw [qSt_ne _ _ _ (by decide)]
  rw [kvSt_fk s 16 le_rfl (kblk x) l (kblk x).isLt, facOf_at, (scK s hk (kblk x) _).1]
include hv in
theorem q_vt (x : ℕ) (d : Fin 128) : qSt s 4 le_rfl .vt (ix2 d (kx x)) = cl (s .v (ix3 (0 : Fin 1) (kx x) d)) (ivE (bMax (s .v) (kblk x))) * scE (bMax (s .v) (kblk x)) := by
  rw [qSt_ne _ _ _ (by decide)]
  exact (kvSt_vt s 16 le_rfl d (kx x) (by omega)).trans ((vtOf_at _ _ d _).trans (congrArg₂ (· * ·) (codeV s hv (kx x) d) (scV s hv (kblk x) _).1))
include hx in
theorem q_q8 (h : Fin 4) (t : Fin 2048) (d : Fin 128) : qSt s 4 le_rfl .q8 (ix3 h t d) = cl (s .x (ix3 (0 : Fin 1) t (xcol h d))) (ivE (hMax (s .x) h)) :=
  (qSt_q8 s 4 le_rfl t h d h.isLt).trans (codeQ s hx h t d)

theorem qcd_at (s' : St Ideal) (h0 : ℕ) (hh : h0 + 1 < 4) (h : Fin 4) (t : Fin 2048) (h1 : h.val ≤ h0 + 1) (h2 : h0 ≤ h.val) (d : Fin 128) :
    qcd (t.val / 256) (by omega) s' h0 hh (pcol h0 h t h1 h2) d = s' .q8 (ix3 h t d) := by
  have e : ∀ (q : (h.val - h0) * 256 + t.val % 256 < 512), (256 * (t.val / 256) + ((h.val - h0) * 256 + t.val % 256) % 256) = t.val := by
    intro q
    rw [Nat.mul_add_mod_self_right, Nat.mod_mod]
    omega
  unfold qcd
  by_cases hA : h.val = h0
  · rw [if_pos (by show (h.val - h0) * 256 + t.val % 256 < 256; rw [hA, Nat.sub_self]; omega)]
    exact congrArg (s' .q8) (congrArg₂ (fun y z => ix3 y z d) (Fin.ext hA.symm) (Fin.ext (e (pcol h0 h t h1 h2).isLt)))
  · have hB : h.val - h0 = 1 := by omega
    rw [if_neg (by show ¬ (h.val - h0) * 256 + t.val % 256 < 256; rw [hB]; omega)]
    exact congrArg (s' .q8) (congrArg₂ (fun y z => ix3 y z d) (Fin.ext (by show h0 + 1 = h.val; omega)) (Fin.ext (e (pcol h0 h t h1 h2).isLt)))
end

/-! ## The result -/

theorem score_real (e sk sq p l : ℝ) : ((e : ℝ) : EReal) * ((((sk : ℝ) : EReal) * ((p⁻¹ * l⁻¹ : ℝ) : EReal)) * ((sq : ℝ) : EReal)) = ((e * (sq / p * sk) / l : ℝ) : EReal) := by
  rw [← EReal.coe_mul, ← EReal.coe_mul, ← EReal.coe_mul]
  congr 1
  rw [div_eq_mul_inv, div_eq_mul_inv]
  ring

section
variable {m : (ℓ : Loc nD τ sig) → Buf (Elt Ideal) ℓ} {c : Dev nD} {t0 : Fin cfg0.N} {s : St Ideal} (hs : Holds m c t0 s)
variable (hx : ∀ i, ab (xM m c i) ≤ big) (hk : ∀ i, ab (kM m c i) ≤ big) (hv : ∀ i, ab (vM m c i) ≤ big)
variable (h : Fin 4) (t : Fin 2048) (d : Fin 128)

include hs hx hk in
theorem end_score (h0 : ℕ) (hh : h0 + 1 < 4) (h1 : h.val ≤ h0 + 1) (h2 : h0 ≤ h.val) (s' : St Ideal) (hs' : ∀ n, (n ≠ .sc ∧ n ≠ .p8 ∧ n ≠ .o) → s' n = qSt s 4 le_rfl n) (x : ℕ) :
    (∑ d : Fin 128, s' .k8 (ix2 (kx x) d) * qcd (t.val / 256) (by omega) s' h0 hh (pcol h0 h t h1 h2) d) *
      (s' .fk (ix2 (kblk x) ⟨(pcol h0 h t h1 h2).val % 128, by omega⟩) * qrow s h0 hh (ix2 (0 : Fin 1) (pcol h0 h t h1 h2))) =
    ((aOf (xM m c) (kM m c) (pb t0) (pg t0) (hdq (pg t0) h) t x / Real.log 2 : ℝ) : EReal) := by
  rw [qrow_at s (le_x hs hx), hs' .fk (by decide), q_fk s (le_k hs hk), hs' .k8 (by decide)]
  have e (d : Fin 128) : qSt s 4 le_rfl .k8 (ix2 (kx x) d) * qcd (t.val / 256) (by omega) s' h0 hh (pcol h0 h t h1 h2) d =
      cl (kM m c (i3 (pb t0) (kx x) (kcol (pg t0) d))) (ivE (kAmax (kM m c) (pb t0) (kblk x) (pg t0))) * cl (xM m c (i3 (pb t0) t (qcol (hdq (pg t0) h) d))) (ivE (qAmax (xM m c) (pb t0) (hdq (pg t0) h))) := by
    rw [q_k8 s (le_k hs hk), qcd_at, hs' .q8 (by decide), q_q8 s (le_x hs hx), in_k hs, max_k hs, in_x hs, max_x hs]
  rw [Finset.sum_congr rfl fun d _ => e d, dotR_eq, max_k hs, max_x hs, kScale _ hk, qScale _ hx]
  exact score_real _ _ _ _ _

include hs hv in
theorem end_value (s' : St Ideal) (hs' : ∀ n, (n ≠ .sc ∧ n ≠ .p8 ∧ n ≠ .o) → s' n = qSt s 4 le_rfl n) (x : ℕ) :
    s' .vt (ix2 d (kx x)) = (wOf (vM m c) (pb t0) (pg t0) d x : EReal) := by
  rw [hs' .vt (by decide), q_vt s (le_v hs hv), in_v hs, max_v hs, kScale _ hv, cl_coe, wOf, EReal.coe_mul]

include hs hx hk hv in
theorem end_out : endSt s .o (ix3 (0 : Fin 1) t (xcol h d)) = oAt (xM m c) (kM m c) (vM m c) (pb t0) (pg t0) (hdq (pg t0) h) t d := by
  obtain ⟨h0, hh, h1, h2, s', hs', e⟩ := endSt_o s t h d
  rw [e]
  refine (tile_real (t.val / 256) _ (qrow s h0 hh) s' h0 hh d (pcol h0 h t h1 h2) (aOf (xM m c) (kM m c) (pb t0) (pg t0) (hdq (pg t0) h) t) (wOf (vM m c) (pb t0) (pg t0) d)
    (fun x _ => end_score hs hx hk h t h0 hh h1 h2 s' hs' x) (fun x _ => end_value hs hv d s' hs' x)).trans ?_
  have et : 256 * (t.val / 256) + (pcol h0 h t h1 h2).val % 256 = t.val := by
    show 256 * (t.val / 256) + ((h.val - h0) * 256 + t.val % 256) % 256 = t.val
    rw [Nat.mul_add_mod_self_right, Nat.mod_mod]
    omega
  rw [et, oAt]
end

end Cert.KernelIdeal.Hand
end
-- ==== Proof.Result.lean ====
/- The kernel's run read: the attention's result and the six arrays of codes and scales, over the extended reals, when the arguments are finite. -/
module

public import proofs.«01_k».proof.Proof.Arrays
public import proofs.«01_k».proof.Proof.AttnOut
public import proofs.«01_k».proof.Proof.Launch
public import Idealize.ShloMosaic.Lib.Pipeline.ArrRel
public import proofs.«01_k».proof.Defs
public import proofs.«01_k».proof.Proof.Gen.Pre_finite

@[expose] public section
noncomputable section
namespace Cert.KernelIdeal.Hand
open Idealize.ShloMosaic Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- All of the arguments' elements are at most the largest finite bf16 in size. -/
structure Fin3 (c : Dev nD) : Prop where
  x : ∀ i, ab (xM m c i) ≤ big
  k : ∀ i, ab (kM m c i) ≤ big
  v : ∀ i, ab (vM m c i) ≤ big

/-! ## The column of a block of 512 -/

theorem eq_xcol (d : Fin 512) : d = xcol ⟨d.val / 128, by omega⟩ ⟨d.val % 128, by omega⟩ := Fin.ext (Nat.div_add_mod' d.val 128).symm

theorem eq_b3 {n : ℕ} (y : (⟨3, ![1, 2048, n]⟩ : Shape).Idx) : y = ix3 (0 : Fin 1) (y 1) (y 2) := by
  funext a
  match a with
  | ⟨0, _⟩ => exact Subsingleton.elim (α := Fin 1) _ _
  | ⟨1, _⟩ => rfl
  | ⟨2, _⟩ => rfl
theorem eq_b4 {n : ℕ} (y : (⟨4, ![1, 1, n, 128]⟩ : Shape).Idx) : y = ix4 (0 : Fin 1) (0 : Fin 1) (y 2) (y 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-! ## The arrays that the codes and scales of an argument are -/

def kcOf (A : KArr) : KArr := fun i => cl (A i) (ivE (kAmax A (i 0) ⟨(i 1).val / 128, by have := (i 1).isLt; change (i 1).val < 2048 at this; omega⟩ ⟨(i 2).val / 128, by have := (i 2).isLt; change (i 2).val < 1024 at this; omega⟩))
def qcOf (A : QArr) : QArr := fun i => cl (A i) (ivE (qAmax A (i 0) ⟨(i 2).val / 128, by have := (i 2).isLt; change (i 2).val < 4096 at this; omega⟩))
def ksOf (A : KArr) : S8x8x16x128.Idx → EReal := fun i => scE (kAmax A (i 0) (i 2) (i 1))
def qsOf (A : QArr) : S8x8x8x128.Idx → EReal := fun i => scE (qAmax A (i 0) (hdq (i 1) ⟨(i 2).val % 4, by omega⟩))

/-- The array that the attention's result is. -/
def oOf (X : QArr) (K V : KArr) : QArr := fun i => oAt X K V (i 0) ⟨(i 2).val / 512, by have := (i 2).isLt; change (i 2).val < 4096 at this; omega⟩
  ⟨(i 2).val / 128, by have := (i 2).isLt; change (i 2).val < 4096 at this; omega⟩ (i 1) ⟨(i 2).val % 128, by omega⟩

/-- An array is the attention's result, read at a head of a key head. -/
def OIs (X : QArr) (K V : KArr) (Y : QArr) : Prop := ∀ (b g : Fin 8) (r : Fin 4) (t : Fin 2048) (d : Fin 128), Y (i3 b t (qcol (hdq g r) d)) = oAt X K V b g (hdq g r) t d

theorem oOf_is (X : QArr) (K V : KArr) : OIs X K V (oOf X K V) := fun b g r t d => by
  have e (g' : Fin 8) (h' : Fin 32) (d' : Fin 128) (eg : g' = g) (eh : h' = hdq g r) (ed : d' = d) : oAt X K V b g' h' t d' = oAt X K V b g (hdq g r) t d := by rw [eg, eh, ed]
  exact e _ _ _ (Fin.ext (by show ((g.val * 4 + r.val) * 128 + d.val) / 512 = g.val; omega)) (Fin.ext (by show ((g.val * 4 + r.val) * 128 + d.val) / 128 = g.val * 4 + r.val; omega))
    (Fin.ext (by show ((g.val * 4 + r.val) * 128 + d.val) % 128 = d.val; omega))

theorem OIs.ext {X : QArr} {K V : KArr} {Y Z : QArr} (hY : OIs X K V Y) (hZ : OIs X K V Z) : Y = Z := by
  funext i
  have e : i = i3 (i 0) (i 1) (qcol (hdq ⟨(i 2).val / 512, by have := (i 2).isLt; change (i 2).val < 4096 at this; omega⟩ ⟨(i 2).val / 128 % 4, by omega⟩) ⟨(i 2).val % 128, by omega⟩) := by
    funext a
    match a with
    | ⟨0, _⟩ => rfl
    | ⟨1, _⟩ => rfl
    | ⟨2, _⟩ => exact Fin.ext (by show (i 2).val = ((i 2).val / 512 * 4 + (i 2).val / 128 % 4) * 128 + (i 2).val % 128; omega)
  rw [e]
  exact (hY _ _ _ _ _).trans (hZ _ _ _ _ _).symm

theorem kcOf_is (A : KArr) : KcIs A (kcOf A) := fun b t g d => by
  unfold kcOf
  exact congrArg (cl _) (congrArg ivE (congrArg (kAmax A b _) (Fin.ext (by show (g.val * 128 + d.val) / 128 = g.val; omega))))
theorem qcOf_is (A : QArr) : QcIs A (qcOf A) := fun b t h d => by
  unfold qcOf
  exact congrArg (cl _) (congrArg ivE (congrArg (qAmax A b) (Fin.ext (by show (h.val * 128 + d.val) / 128 = h.val; omega))))
theorem ksOf_is (A : KArr) : KsIs A (ksOf A) := fun b g j l => rfl
theorem qsOf_is (A : QArr) : QsIs A (qsOf A) := fun b g r hr l => by
  unfold qsOf
  exact congrArg scE (congrArg (qAmax A b) (congrArg (hdq g) (Fin.ext (Nat.mod_eq_of_lt hr))))

/-! ## The arrays at the end -/

section
variable {m} {c : Dev nD} (hf : Fin3 m c)
variable {after : (w' : Fin (cfgs 0).W) → Fin (cfgs 0).N → ((cfgs 0).win w').block.Idx → (Elt Ideal) ((cfgs 0).win w').elt}
variable (hL : ∀ (w : Fin (cfgs 0).W) (u : Fin (cfgs 0).N), ((cfgs 0).win w).flush u = true → (rdat m c).Leaves w u (after w u))
include hf hL

theorem arr_kc : ((rdat m c).withAfter after).arrAt 5 (cfgs 0).N = kcOf (kM m c) := by
  refine Dat.arrAt_eq_of_covers _ 5 _ (by decide +kernel) fun t hfl y => ?_
  obtain ⟨s, hs, e⟩ := (dats m 0 c).toRRel_leaves (fgt := outs0) (Rl := Left m c) (w := 5) rfl (hL 5 t hfl)
  blk_simp
  rw [Pipeline.RDat.withAfter_after, e]
  have key (r : Fin 2048) (d : Fin 128) : endSt s .kc (ix3 (0 : Fin 1) r d) = kcOf (kM m c) (((cfg0.win 5).blk t).view.emb (ix3 (0 : Fin 1) r d : S1x2048x128.Idx)) := by
    rw [end_kc s (le_k hs hf.k), emb5 t r d, kcOf_is, in_k hs, max_k hs]
  rw [eq_b3 y]
  exact key _ _

theorem arr_vc : ((rdat m c).withAfter after).arrAt 6 (cfgs 0).N = kcOf (vM m c) := by
  refine Dat.arrAt_eq_of_covers _ 6 _ (by decide +kernel) fun t hfl y => ?_
  obtain ⟨s, hs, e⟩ := (dats m 0 c).toRRel_leaves (fgt := outs0) (Rl := Left m c) (w := 6) rfl (hL 6 t hfl)
  blk_simp
  rw [Pipeline.RDat.withAfter_after, e]
  have key (r : Fin 2048) (d : Fin 128) : endSt s .vc (ix3 (0 : Fin 1) r d) = kcOf (vM m c) (((cfg0.win 6).blk t).view.emb (ix3 (0 : Fin 1) r d : S1x2048x128.Idx)) := by
    rw [end_vc s (le_v hs hf.v), emb6 t r d, kcOf_is, in_v hs, max_v hs]
  rw [eq_b3 y]
  exact key _ _

theorem arr_out : ((rdat m c).withAfter after).arrAt 3 (cfgs 0).N = oOf (xM m c) (kM m c) (vM m c) := by
  refine Dat.arrAt_eq_of_covers _ 3 _ (by decide +kernel) fun t hfl y => ?_
  obtain ⟨s, hs, e⟩ := (dats m 0 c).toRRel_leaves (fgt := outs0) (Rl := Left m c) (w := 3) rfl (hL 3 t hfl)
  blk_simp
  rw [Pipeline.RDat.withAfter_after, e]
  have key (r : Fin 2048) (h : Fin 4) (d : Fin 128) : endSt s .o (ix3 (0 : Fin 1) r (xcol h d)) = oOf (xM m c) (kM m c) (vM m c) (((cfg0.win 3).blk t).view.emb (ix3 (0 : Fin 1) r (xcol h d) : S1x2048x512.Idx)) := by
    rw [end_out hs hf.x hf.k hf.v, emb3 t r h d, oOf_is]
  rw [eq_b3 y, eq_xcol (y 2)]
  exact key _ _ _

theorem arr_qc : ((rdat m c).withAfter after).arrAt 4 (cfgs 0).N = qcOf (xM m c) := by
  refine Dat.arrAt_eq_of_covers _ 4 _ (by decide +kernel) fun t hfl y => ?_
  obtain ⟨s, hs, e⟩ := (dats m 0 c).toRRel_leaves (fgt := outs0) (Rl := Left m c) (w := 4) rfl (hL 4 t hfl)
  blk_simp
  rw [Pipeline.RDat.withAfter_after, e]
  have key (r : Fin 2048) (h : Fin 4) (d : Fin 128) : endSt s .qc (ix3 (0 : Fin 1) r (xcol h d)) = qcOf (xM m c) (((cfg0.win 4).blk t).view.emb (ix3 (0 : Fin 1) r (xcol h d) : S1x2048x512.Idx)) := by
    rw [end_qc s (le_x hs hf.x), emb4 t r h d, qcOf_is, in_x hs, max_x hs]
  rw [eq_b3 y, eq_xcol (y 2)]
  exact key _ _ _

theorem arr_ks : ((rdat m c).withAfter after).arrAt 8 (cfgs 0).N = ksOf (kM m c) := by
  refine Dat.arrAt_eq_of_covers _ 8 _ (by decide +kernel) fun t hfl y => ?_
  obtain ⟨s, hs, e⟩ := (dats m 0 c).toRRel_leaves (fgt := outs0) (Rl := Left m c) (w := 8) rfl (hL 8 t hfl)
  blk_simp
  rw [Pipeline.RDat.withAfter_after, e]
  have key (j : Fin 16) (l : Fin 128) : endSt s .ks (ix4 (0 : Fin 1) (0 : Fin 1) j l) = ksOf (kM m c) (((cfg0.win 8).blk t).view.emb (ix4 (0 : Fin 1) (0 : Fin 1) j l : S1x1x16x128.Idx)) := by
    rw [end_ks s (le_k hs hf.k), emb8 t j l, ksOf_is, max_k hs]
  rw [eq_b4 y]
  exact key _ _

theorem arr_vs : ((rdat m c).withAfter after).arrAt 9 (cfgs 0).N = ksOf (vM m c) := by
  refine Dat.arrAt_eq_of_covers _ 9 _ (by decide +kernel) fun t hfl y => ?_
  obtain ⟨s, hs, e⟩ := (dats m 0 c).toRRel_leaves (fgt := outs0) (Rl := Left m c) (w := 9) rfl (hL 9 t hfl)
  blk_simp
  rw [Pipeline.RDat.withAfter_after, e]
  have key (j : Fin 16) (l : Fin 128) : endSt s .vs (ix4 (0 : Fin 1) (0 : Fin 1) j l) = ksOf (vM m c) (((cfg0.win 9).blk t).view.emb (ix4 (0 : Fin 1) (0 : Fin 1) j l : S1x1x16x128.Idx)) := by
    rw [end_vs s (le_v hs hf.v), emb9 t j l, ksOf_is, max_v hs]
  rw [eq_b4 y]
  exact key _ _

theorem arr_qs (i : S8x8x8x128.Idx) (hi : (i 2).val < 4) : ((rdat m c).withAfter after).arrAt 7 (cfgs 0).N i = qsOf (xM m c) i := by
  refine (Dat.arrAt_forall_of_covers ((rdat m c).withAfter after) 7 (fun (i : S8x8x8x128.Idx) v => (i 2).val < 4 → v = qsOf (xM m c) i) (by decide +kernel) (fun t hfl y => ?_) i) hi
  obtain ⟨s, hs, e⟩ := (dats m 0 c).toRRel_leaves (fgt := outs0) (Rl := Left m c) (w := 7) rfl (hL 7 t hfl)
  have key (j : Fin 8) (l : Fin 128) (hj : ((((cfg0.win 7).blk t).view.emb (ix4 (0 : Fin 1) (0 : Fin 1) j l : S1x1x8x128.Idx) : S8x8x8x128.Idx) 2).val < 4) :
      endSt s .qs (ix4 (0 : Fin 1) (0 : Fin 1) j l) = qsOf (xM m c) (((cfg0.win 7).blk t).view.emb (ix4 (0 : Fin 1) (0 : Fin 1) j l : S1x1x8x128.Idx)) := by
    rw [emb7 t j l] at hj ⊢
    have hj' : j.val < 4 := hj
    rw [end_qs s (le_x hs hf.x) j hj', qsOf_is _ _ _ _ hj', max_x hs]
  intro hj
  blk_simp
  rw [Pipeline.RDat.withAfter_after, e]
  rw [eq_b4 y] at hj ⊢
  exact key _ _ hj
end

/-! ## The run -/

theorem run_vals : θ_run (defs (F := Ideal)) (onTc (τ := τ) (main (F := Ideal))) ⟨m, fun _ => 0, ρ⟩ (fun r => r.2.sem = (fun _ => 0) ∧ ∀ c : Dev nD,
      (Fin3 m c → r.2.mem ((c.tc : Thread nD τ).loc main_v0_0) = oOf (xM m c) (kM m c) (vM m c) ∧ r.2.mem ((c.tc : Thread nD τ).loc main_v0_1) = qcOf (xM m c) ∧ r.2.mem ((c.tc : Thread nD τ).loc main_v0_2) = kcOf (kM m c)
        ∧ r.2.mem ((c.tc : Thread nD τ).loc main_v0_3) = kcOf (vM m c)
        ∧ (∀ i : S8x8x8x128.Idx, (i 2).val < 4 → r.2.mem ((c.tc : Thread nD τ).loc main_v0_4) i = qsOf (xM m c) i)
        ∧ r.2.mem ((c.tc : Thread nD τ).loc main_v0_5) = ksOf (kM m c) ∧ r.2.mem ((c.tc : Thread nD τ).loc main_v0_6) = ksOf (vM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h => ⟨h.2, fun c => ⟨fun hf => by
      obtain ⟨after, hL, hA⟩ := Pipeline.RDat.FramePost.exists_exact h.1 c
      exact ⟨(hA 3).trans (arr_out hf hL), (hA 4).trans (arr_qc hf hL), (hA 5).trans (arr_kc hf hL), (hA 6).trans (arr_vc hf hL),
        fun i hi => (congrFun (hA 7) i).trans (arr_qs hf hL i hi), (hA 8).trans (arr_ks hf hL), (hA 9).trans (arr_vs hf hL)⟩,
    (Pipeline.RDat.FramePost.arr_in h.1 c 0 rfl).trans ((A_eq m c 0).trans (V_main_arg0 m c)),
    (Pipeline.RDat.FramePost.arr_in h.1 c 1 rfl).trans ((A_eq m c 1).trans (V_main_arg1 m c)),
    (Pipeline.RDat.FramePost.arr_in h.1 c 2 rfl).trans ((A_eq m c 2).trans (V_main_arg2 m c))⟩⟩) (run_main m ρ)

end Cert.KernelIdeal.Hand
end
-- ==== Proof.RefRead.lean ====
/- The reference's quantised arrays read at an index. -/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

noncomputable section

namespace Cert.ReferenceIdeal.Hand

open Idealize.ShloMosaic
open Cert.ReferenceIdeal Cert.ReferenceIdeal.Gen Cert.ReferenceIdeal.Value
open Cert.KernelIdeal.Hand (KArr QArr i3 tok kcol qcol ab kAmax qAmax scE ivE cl expRef expRef_eq fold_max_iSup)

variable (V : Valuation τ sig (Elt Ideal))

abbrev xA : QArr := V (Proc.tc.devRef main_arg0)
abbrev kA : KArr := V (Proc.tc.devRef main_arg1)
abbrev vA : KArr := V (Proc.tc.devRef main_arg2)

theorem i3_eq {a b c : ℕ} (x : Fin a) (y : Fin b) (z : Fin c) : i3 x y z = ix3 x y z := by
  funext i; match i with | ⟨0, _⟩ => rfl | ⟨1, _⟩ => rfl | ⟨2, _⟩ => rfl

/-- A block's maximum over its tokens and features. -/
theorem blk_max (f : S8x16x128x8x128.Idx → EReal) (b : Fin 8) (j : Fin 16) (g : Fin 8) :
    (⨆ i ∈ (Finset.univ.filter fun i => reducesTo_S8x16x128x8x128_S8x16x8_d2_4.drop i = ix3 b j g), f i) = ⨆ r : Fin 128, ⨆ d : Fin 128, f (ix5 b j r g d) := by
  have hd : ∀ i, reducesTo_S8x16x128x8x128_S8x16x8_d2_4.drop i = ix3 (i 0) (i 1) (i 3) := by
    intro i
    funext a
    match a with
    | ⟨0, _⟩ => exact Fin.ext (Shape.ReducesTo.drop_apply_val_of_eq reducesTo_S8x16x128x8x128_S8x16x8_d2_4 i 0 0)
    | ⟨1, _⟩ => exact Fin.ext (Shape.ReducesTo.drop_apply_val_of_eq reducesTo_S8x16x128x8x128_S8x16x8_d2_4 i 1 1)
    | ⟨2, _⟩ => exact Fin.ext (Shape.ReducesTo.drop_apply_val_of_eq reducesTo_S8x16x128x8x128_S8x16x8_d2_4 i 2 3)
  refine eq_of_forall_ge_iff fun c => ?_
  simp only [iSup_le_iff, Finset.mem_filter, Finset.mem_univ, true_and]
  constructor
  · intro h r d
    exact h _ (hd _)
  · intro h i hi
    obtain ⟨e0, e1, e2⟩ := (ix3_inj _ _ _ _ _ _).1 ((hd i).symm.trans hi)
    have := h (i 2) (i 4)
    subst e0 e1 e2
    exact le_of_eq_of_le (congrArg f (eq_ix5 i)) this

/-- A head's maximum over the tokens and features. -/
theorem head_max (f : S8x1x2048x32x128.Idx → EReal) (b : Fin 8) (g : Fin 32) :
    (⨆ i ∈ (Finset.univ.filter fun i => reducesTo_S8x1x2048x32x128_S8x1x32_d2_4.drop i = ix3 b (0 : Fin 1) g), f i) = ⨆ r : Fin 2048, ⨆ d : Fin 128, f (ix5 b (0 : Fin 1) r g d) := by
  have hd : ∀ i, reducesTo_S8x1x2048x32x128_S8x1x32_d2_4.drop i = ix3 (i 0) (i 1) (i 3) := by
    intro i
    funext a
    match a with
    | ⟨0, _⟩ => exact Fin.ext (Shape.ReducesTo.drop_apply_val_of_eq reducesTo_S8x1x2048x32x128_S8x1x32_d2_4 i 0 0)
    | ⟨1, _⟩ => exact Fin.ext (Shape.ReducesTo.drop_apply_val_of_eq reducesTo_S8x1x2048x32x128_S8x1x32_d2_4 i 1 1)
    | ⟨2, _⟩ => exact Fin.ext (Shape.ReducesTo.drop_apply_val_of_eq reducesTo_S8x1x2048x32x128_S8x1x32_d2_4 i 2 3)
  refine eq_of_forall_ge_iff fun c => ?_
  simp only [iSup_le_iff, Finset.mem_filter, Finset.mem_univ, true_and]
  constructor
  · intro h r d
    exact h _ (hd _)
  · intro h i hi
    obtain ⟨e0, e1, e2⟩ := (ix3_inj _ _ _ _ _ _).1 ((hd i).symm.trans hi)
    have := h (i 2) (i 4)
    subst e0 e2
    rw [← e1] at this
    exact le_of_eq_of_le (congrArg f (eq_ix5 i)) this

/-! ## The arrays of a key or value quantisation -/

variable (a : FVec Ideal S8x2048x1024 .bf16) (w : FVec Ideal S8x16x128x8x128 .f32) (x e : FVec Ideal S8x16x8 .f32) (l : FVec Ideal S_ .f32)
  (cc : FVec Ideal S8x2048x8x128 .f32)

def wArr : FVec Ideal S8x16x128x8x128 .f32 :=
  shapeCast _ (extf .f32 (shapeCast _ a shapeCasts_S8x2048x1024_S8x2048x8x128 : FVec Ideal S8x2048x8x128 .bf16) bitsLt_bf16_f32) shapeCasts_S8x2048x8x128_S8x16x128x8x128
def mArr : FVec Ideal S8x16x8 .f32 :=
  mulf (Host.reduce FloatOps.maximumf (Host.absf w) (constant S_ .f32 0xFF800000#32) reducesTo_S8x16x128x8x128_S8x16x8_d2_4 h_S_) (broadcastInDim S8x16x8 ![] bcast_S_S8x16x8 (constant S_ .f32 0x3B124925#32))
def eArr : FVec Ideal S8x16x8 .f32 :=
  select (cmpf .olt x (broadcastInDim S8x16x8 ![] bcast_S_S8x16x8 (constant S_ .f32 0x00800000#32))) (broadcastInDim S8x16x8 ![] bcast_S_S8x16x8 (id (constant S_ .f32 0x00000000#32))) (addf (Host.floor (Host.divf (Host.log x) (broadcastInDim S8x16x8 ![] bcast_S_S8x16x8 l))) (broadcastInDim S8x16x8 ![] bcast_S_S8x16x8 (constant S_ .f32 0x3F800000#32)))
def sArr : FVec Ideal S8x16x8 .f32 := Host.exp (mulf e (broadcastInDim S8x16x8 ![] bcast_S_S8x16x8 l))
def cArr : FVec Ideal S8x2048x8x128 .f32 :=
  shapeCast _ (minimumf (broadcastInDim S8x16x128x8x128 ![] bcast_S_S8x16x128x8x128 (id (constant S_ .f32 0x43E00000#32))) (maximumf (broadcastInDim S8x16x128x8x128 ![] bcast_S_S8x16x128x8x128 (id (constant S_ .f32 0xC3E00000#32))) (mulf w (broadcastInDim S8x16x128x8x128 ![0, 1, 2, 3, 4] bcast_S8x16x1x8x1_S8x16x128x8x128_0_1_2_3_4 (broadcastInDim S8x16x1x8x1 ![0, 1, 3] bcast_S8x16x8_S8x16x1x8x1_0_1_3 (Host.exp (mulf (Host.negf e) (broadcastInDim S8x16x8 ![] bcast_S_S8x16x8 l)))))))) shapeCasts_S8x16x128x8x128_S8x2048x8x128
def lArr : FVec Ideal S_ .f32 := Host.log (constant S_ .f32 0x40000000#32)
/-- The scales laid out for the result, -/
def ksArr : FVec Ideal S8x8x16x128 .f32 := broadcastInDim S8x8x16x128 ![0, 1, 2, 3] bcast_S8x8x16x1_S8x8x16x128_0_1_2_3 (broadcastInDim S8x8x16x1 ![0, 1, 2] bcast_S8x8x16_S8x8x16x1_0_1_2 (transpose S8x8x16 [0, 2, 1] x transposes_S8x16x8_S8x8x16_0_2_1))
/-- and the codes. -/
def kcArr : FVec Ideal S8x2048x1024 .fp8e4m3 := Host.convertf .fp8e4m3 (shapeCast _ cc shapeCasts_S8x2048x8x128_S8x2048x1024 : FVec Ideal S8x2048x1024 .f32)

theorem wArr_at (b : Fin 8) (j : Fin 16) (r : Fin 128) (g : Fin 8) (d : Fin 128) : wArr a (ix5 b j r g d) = a (i3 b (tok j r) (kcol g d)) := by
  rw [i3_eq]
  unfold wArr
  pointwise
  rfl

theorem eArr_at (b : Fin 8) (j : Fin 16) (g : Fin 8) : eArr x l (ix3 b j g) = if x (ix3 b j g) < Ideal.ofBits .f32 0x00800000#32 then Ideal.ofBits .f32 0x00000000#32 else
    Ideal.liftRound Int.floor (Ideal.div (Ideal.log (x (ix3 b j g))) (l ix0)) + Ideal.ofBits .f32 0x3F800000#32 := by
  unfold eArr
  pointwise [id]

theorem sArr_at (b : Fin 8) (j : Fin 16) (g : Fin 8) : sArr e l (ix3 b j g) = Ideal.exp (e (ix3 b j g) * l ix0) := by
  unfold sArr
  pointwise

theorem cArr_at (b : Fin 8) (t : Fin 2048) (g : Fin 8) (d : Fin 128) : cArr w e l (ix4 b t g d) =
    cl (w (ix5 b ⟨t.val / 128, by omega⟩ ⟨t.val % 128, by omega⟩ g d)) (Ideal.exp (-e (ix3 b ⟨t.val / 128, by omega⟩ g) * l ix0)) := by
  unfold cArr cl
  pointwise [id]

theorem lArr_at : lArr ix0 = Ideal.log (Ideal.ofBits .f32 0x40000000#32) := by
  unfold lArr
  pointwise

theorem ksArr_at (b : Fin 8) (g : Fin 8) (j : Fin 16) (d : Fin 128) : ksArr x (ix4 b g j d) = x (ix3 b j g) := by
  unfold ksArr
  pointwise

theorem kcArr_at (b : Fin 8) (t : Fin 2048) (g : Fin 8) (d : Fin 128) : kcArr cc (i3 b t (kcol g d)) = cc (ix4 b t g d) := by
  rw [i3_eq]
  unfold kcArr kcol
  pointwise

theorem fold_maximumf {ι : Type} (S : Finset ι) (c : EReal) (f : ι → EReal) : S.fold (FloatOps.maximumf (F := Ideal) (φ := .f32)) c f = S.fold max c f := rfl

theorem mArr_at (b : Fin 8) (j : Fin 16) (g : Fin 8) : mArr w (ix3 b j g) = (⨆ r : Fin 128, ⨆ d : Fin 128, ab (w (ix5 b j r g d))) * Ideal.ofBits .f32 0x3B124925#32 := by
  have h : (Host.reduce FloatOps.maximumf (Host.absf w) (constant S_ .f32 0xFF800000#32) reducesTo_S8x16x128x8x128_S8x16x8_d2_4 h_S_) (ix3 b j g) = (⨆ r : Fin 128, ⨆ d : Fin 128, ab (w (ix5 b j r g d))) := by
    rw [Host.reduce_eq_fold FloatOps.maximumf, ← blk_max (fun i => ab (w i)), ← fold_max_iSup]
    exact fold_maximumf _ _ _
  have hc : (broadcastInDim S8x16x8 ![] bcast_S_S8x16x8 (constant (F := Ideal) S_ .f32 0x3B124925#32)) (ix3 b j g) = Ideal.ofBits .f32 0x3B124925#32 := by
    pointwise
  unfold mArr
  rw [ValueIdx.mulf_apply, h, hc]

theorem kE_at (b : Fin 8) (j : Fin 16) (g : Fin 8) : eArr (mArr (wArr a)) lArr (ix3 b j g) = expRef (kAmax a b j g * Ideal.ofBits .f32 0x3B124925#32) := by
  rw [eArr_at, mArr_at, lArr_at, expRef_eq, Ideal.ofBits_zero_f32, Ideal.ofBits_one_f32, kAmax]
  simp only [wArr_at]

theorem kS_at (b : Fin 8) (j : Fin 16) (g : Fin 8) : sArr (eArr (mArr (wArr a)) lArr) lArr (ix3 b j g) = scE (kAmax a b j g) := by
  rw [sArr_at, kE_at, lArr_at, scE]

theorem kC_at (b : Fin 8) (t : Fin 2048) (g : Fin 8) (d : Fin 128) : cArr (wArr a) (eArr (mArr (wArr a)) lArr) lArr (ix4 b t g d) =
    cl (a (i3 b t (kcol g d))) (ivE (kAmax a b ⟨t.val / 128, by omega⟩ g)) := by
  rw [cArr_at, kE_at, lArr_at, wArr_at, ivE, show tok ⟨t.val / 128, by omega⟩ ⟨t.val % 128, by omega⟩ = t from Fin.ext (Nat.div_add_mod' t.val 128)]

theorem v31_eq : res_main_v31 V = wArr (kA V) := rfl
theorem v35_eq : res_main_v35 V = mArr (res_main_v31 V) := rfl
theorem v36_eq : res_main_v36 V = lArr := rfl
theorem v45_eq : res_main_v45 V = eArr (res_main_v35 V) (res_main_v36 V) := rfl
theorem v48_eq : res_main_v48 V = sArr (res_main_v45 V) (res_main_v36 V) := rfl
theorem v57_eq : res_main_v57 V = cArr (res_main_v31 V) (res_main_v45 V) (res_main_v36 V) := rfl
theorem v60_eq : res_main_v60 V = wArr (vA V) := rfl
theorem v64_eq : res_main_v64 V = mArr (res_main_v60 V) := rfl
theorem v65_eq : res_main_v65 V = lArr := rfl
theorem v74_eq : res_main_v74 V = eArr (res_main_v64 V) (res_main_v65 V) := rfl
theorem v77_eq : res_main_v77 V = sArr (res_main_v74 V) (res_main_v65 V) := rfl
theorem v86_eq : res_main_v86 V = cArr (res_main_v60 V) (res_main_v74 V) (res_main_v65 V) := rfl

theorem v48_arr : res_main_v48 V = sArr (eArr (mArr (wArr (kA V))) lArr) lArr :=
  (v48_eq V).trans (congrArg₂ sArr ((v45_eq V).trans (congrArg₂ eArr ((v35_eq V).trans (congrArg mArr (v31_eq V))) (v36_eq V))) (v36_eq V))
theorem v57_arr : res_main_v57 V = cArr (wArr (kA V)) (eArr (mArr (wArr (kA V))) lArr) lArr := by
  rw [v57_eq, v45_eq, v35_eq, v31_eq, v36_eq]
theorem v77_arr : res_main_v77 V = sArr (eArr (mArr (wArr (vA V))) lArr) lArr :=
  (v77_eq V).trans (congrArg₂ sArr ((v74_eq V).trans (congrArg₂ eArr ((v64_eq V).trans (congrArg mArr (v60_eq V))) (v65_eq V))) (v65_eq V))
theorem v86_arr : res_main_v86 V = cArr (wArr (vA V)) (eArr (mArr (wArr (vA V))) lArr) lArr := by
  rw [v86_eq, v74_eq, v64_eq, v60_eq, v65_eq]

/-! ## The arrays of the query's quantisation -/

variable (aq : FVec Ideal S8x2048x4096 .bf16) (wq : FVec Ideal S8x1x2048x32x128 .f32) (xq eq : FVec Ideal S8x1x32 .f32)
  (lq : FVec Ideal S_ .f32) (sq : FVec Ideal S8x8x4 .f32) (cq : FVec Ideal S8x2048x32x128 .f32)

def wQ : FVec Ideal S8x1x2048x32x128 .f32 :=
  shapeCast _ (extf .f32 (shapeCast _ aq shapeCasts_S8x2048x4096_S8x2048x32x128 : FVec Ideal S8x2048x32x128 .bf16) bitsLt_bf16_f32) shapeCasts_S8x2048x32x128_S8x1x2048x32x128
def mQ : FVec Ideal S8x1x32 .f32 :=
  mulf (Host.reduce FloatOps.maximumf (Host.absf wq) (constant S_ .f32 0xFF800000#32) reducesTo_S8x1x2048x32x128_S8x1x32_d2_4 h_S_) (broadcastInDim S8x1x32 ![] bcast_S_S8x1x32 (constant S_ .f32 0x3B124925#32))
def eQ : FVec Ideal S8x1x32 .f32 :=
  select (cmpf .olt xq (broadcastInDim S8x1x32 ![] bcast_S_S8x1x32 (constant S_ .f32 0x00800000#32))) (broadcastInDim S8x1x32 ![] bcast_S_S8x1x32 (id (constant S_ .f32 0x00000000#32))) (addf (Host.floor (Host.divf (Host.log xq) (broadcastInDim S8x1x32 ![] bcast_S_S8x1x32 lq))) (broadcastInDim S8x1x32 ![] bcast_S_S8x1x32 (constant S_ .f32 0x3F800000#32)))
def sQ : FVec Ideal S8x8x4 .f32 := shapeCast _ (Host.exp (mulf eq (broadcastInDim S8x1x32 ![] bcast_S_S8x1x32 lq))) shapeCasts_S8x1x32_S8x8x4
def cQ : FVec Ideal S8x2048x32x128 .f32 :=
  shapeCast _ (minimumf (broadcastInDim S8x1x2048x32x128 ![] bcast_S_S8x1x2048x32x128 (id (constant S_ .f32 0x43E00000#32))) (maximumf (broadcastInDim S8x1x2048x32x128 ![] bcast_S_S8x1x2048x32x128 (id (constant S_ .f32 0xC3E00000#32))) (mulf wq (broadcastInDim S8x1x2048x32x128 ![0, 1, 2, 3, 4] bcast_S8x1x1x32x1_S8x1x2048x32x128_0_1_2_3_4 (broadcastInDim S8x1x1x32x1 ![0, 1, 3] bcast_S8x1x32_S8x1x1x32x1_0_1_3 (Host.exp (mulf (Host.negf eq) (broadcastInDim S8x1x32 ![] bcast_S_S8x1x32 lq)))))))) shapeCasts_S8x1x2048x32x128_S8x2048x32x128
def qsArr : FVec Ideal S8x8x8x128 .f32 := broadcastInDim S8x8x8x128 ![0, 1, 2, 3] bcast_S8x8x8x1_S8x8x8x128_0_1_2_3 (broadcastInDim S8x8x8x1 ![0, 1, 2] bcast_S8x8x8_S8x8x8x1_0_1_2 (concatenate S8x8x8 2 [⟨S8x8x4, sq⟩, ⟨S8x8x4, sq⟩] concatenates_S8x8x4_S8x8x4_S8x8x8_d2))
def qcArr : FVec Ideal S8x2048x4096 .fp8e4m3 := Host.convertf .fp8e4m3 (shapeCast _ cq shapeCasts_S8x2048x32x128_S8x2048x4096 : FVec Ideal S8x2048x4096 .f32)

/-- Query head `r` of key head `g`. -/
def hd (g : Fin 8) (r : Fin 4) : Fin 32 := ⟨g.val * 4 + r.val, by omega⟩

theorem wQ_at (b : Fin 8) (t : Fin 2048) (h : Fin 32) (d : Fin 128) : wQ aq (ix5 b (0 : Fin 1) t h d) = aq (i3 b t (qcol h d)) := by
  rw [i3_eq]
  unfold wQ
  pointwise
  rfl

theorem eQ_at (b : Fin 8) (h : Fin 32) : eQ xq lq (ix3 b (0 : Fin 1) h) = if xq (ix3 b (0 : Fin 1) h) < Ideal.ofBits .f32 0x00800000#32 then Ideal.ofBits .f32 0x00000000#32 else
    Ideal.liftRound Int.floor (Ideal.div (Ideal.log (xq (ix3 b (0 : Fin 1) h))) (lq ix0)) + Ideal.ofBits .f32 0x3F800000#32 := by
  unfold eQ
  pointwise [id]

theorem sQ_at (b : Fin 8) (g : Fin 8) (r : Fin 4) : sQ eq lq (ix3 b g r) = Ideal.exp (eq (ix3 b (0 : Fin 1) (hd g r)) * lq ix0) := by
  unfold sQ hd
  pointwise

theorem cQ_at (b : Fin 8) (t : Fin 2048) (h : Fin 32) (d : Fin 128) : cQ wq eq lq (ix4 b t h d) =
    cl (wq (ix5 b (0 : Fin 1) t h d)) (Ideal.exp (-eq (ix3 b (0 : Fin 1) h) * lq ix0)) := by
  unfold cQ cl
  pointwise [id]

theorem mQ_at (b : Fin 8) (h : Fin 32) : mQ wq (ix3 b (0 : Fin 1) h) = (⨆ t : Fin 2048, ⨆ d : Fin 128, ab (wq (ix5 b (0 : Fin 1) t h d))) * Ideal.ofBits .f32 0x3B124925#32 := by
  have hm : (Host.reduce FloatOps.maximumf (Host.absf wq) (constant S_ .f32 0xFF800000#32) reducesTo_S8x1x2048x32x128_S8x1x32_d2_4 h_S_) (ix3 b (0 : Fin 1) h) = (⨆ t : Fin 2048, ⨆ d : Fin 128, ab (wq (ix5 b (0 : Fin 1) t h d))) := by
    rw [Host.reduce_eq_fold FloatOps.maximumf, ← head_max (fun i => ab (wq i)), ← fold_max_iSup]
    exact fold_maximumf _ _ _
  have hc : (broadcastInDim S8x1x32 ![] bcast_S_S8x1x32 (constant (F := Ideal) S_ .f32 0x3B124925#32)) (ix3 b (0 : Fin 1) h) = Ideal.ofBits .f32 0x3B124925#32 := by
    pointwise
  unfold mQ
  rw [ValueIdx.mulf_apply, hm, hc]

theorem qsArr_at (b : Fin 8) (g : Fin 8) (r : Fin 8) (hr : r.val < 4) (d : Fin 128) : qsArr sq (ix4 b g r d) = sq (ix3 b g ⟨r.val, hr⟩) := by
  unfold qsArr
  pointwise
  simp [hr]

theorem qcArr_at (b : Fin 8) (t : Fin 2048) (h : Fin 32) (d : Fin 128) : qcArr cq (i3 b t (qcol h d)) = cq (ix4 b t h d) := by
  rw [i3_eq]
  unfold qcArr qcol
  pointwise

theorem qE_at (b : Fin 8) (h : Fin 32) : eQ (mQ (wQ aq)) lArr (ix3 b (0 : Fin 1) h) = expRef (qAmax aq b h * Ideal.ofBits .f32 0x3B124925#32) := by
  rw [eQ_at, mQ_at, lArr_at, expRef_eq, Ideal.ofBits_zero_f32, Ideal.ofBits_one_f32, qAmax]
  simp only [wQ_at]

theorem qS_at (b : Fin 8) (g : Fin 8) (r : Fin 4) : sQ (eQ (mQ (wQ aq)) lArr) lArr (ix3 b g r) = scE (qAmax aq b (hd g r)) := by
  rw [sQ_at, qE_at, lArr_at, scE]

theorem qC_at (b : Fin 8) (t : Fin 2048) (h : Fin 32) (d : Fin 128) : cQ (wQ aq) (eQ (mQ (wQ aq)) lArr) lArr (ix4 b t h d) =
    cl (aq (i3 b t (qcol h d))) (ivE (qAmax aq b h)) := by
  rw [cQ_at, qE_at, lArr_at, wQ_at, ivE]

theorem v2_eq : res_main_v2 V = wQ (xA V) := rfl
theorem v6_eq : res_main_v6 V = mQ (res_main_v2 V) := rfl
theorem v7_eq : res_main_v7 V = lArr := rfl
theorem v16_eq : res_main_v16 V = eQ (res_main_v6 V) (res_main_v7 V) := rfl
theorem v28_eq : res_main_v28 V = cQ (res_main_v2 V) (res_main_v16 V) (res_main_v7 V) := rfl
theorem v87_eq : res_main_v87 V = sQ (res_main_v16 V) (res_main_v7 V) := rfl
theorem v28_arr : res_main_v28 V = cQ (wQ (xA V)) (eQ (mQ (wQ (xA V))) lArr) lArr := by
  rw [v28_eq, v16_eq, v6_eq, v2_eq, v7_eq]
theorem v87_arr : res_main_v87 V = sQ (eQ (mQ (wQ (xA V))) lArr) lArr := by
  rw [v87_eq, v16_eq, v6_eq, v2_eq, v7_eq]

/-! ## The results -/

theorem ref_kc (b : Fin 8) (t : Fin 2048) (g : Fin 8) (d : Fin 128) : kcArr (res_main_v57 V) (i3 b t (kcol g d)) =
    cl (kA V (i3 b t (kcol g d))) (ivE (kAmax (kA V) b ⟨t.val / 128, by omega⟩ g)) := by
  rw [kcArr_at, v57_arr, kC_at]
theorem ref_vc (b : Fin 8) (t : Fin 2048) (g : Fin 8) (d : Fin 128) : kcArr (res_main_v86 V) (i3 b t (kcol g d)) =
    cl (vA V (i3 b t (kcol g d))) (ivE (kAmax (vA V) b ⟨t.val / 128, by omega⟩ g)) := by
  rw [kcArr_at, v86_arr, kC_at]
theorem ref_qc (b : Fin 8) (t : Fin 2048) (h : Fin 32) (d : Fin 128) : qcArr (res_main_v28 V) (i3 b t (qcol h d)) =
    cl (xA V (i3 b t (qcol h d))) (ivE (qAmax (xA V) b h)) := by
  rw [qcArr_at, v28_arr, qC_at]
theorem ref_ks (b : Fin 8) (g : Fin 8) (j : Fin 16) (d : Fin 128) : ksArr (res_main_v48 V) (ix4 b g j d) = scE (kAmax (kA V) b j g) := by
  rw [ksArr_at, v48_arr, kS_at]
theorem ref_vs (b : Fin 8) (g : Fin 8) (j : Fin 16) (d : Fin 128) : ksArr (res_main_v77 V) (ix4 b g j d) = scE (kAmax (vA V) b j g) := by
  rw [ksArr_at, v77_arr, kS_at]
theorem ref_qs (b : Fin 8) (g : Fin 8) (r : Fin 8) (hr : r.val < 4) (d : Fin 128) : qsArr (res_main_v87 V) (ix4 b g r d) = scE (qAmax (xA V) b (hd g ⟨r.val, hr⟩)) := by
  rw [qsArr_at _ _ _ _ hr, v87_arr, qS_at]

end Cert.ReferenceIdeal.Hand
end
-- ==== Proof.AttnRef.lean ====
/- The reference's attention read at an index. -/
module

public import proofs.«01_k».proof.Proof.RefRead
public import proofs.«01_k».proof.Proof.SoftMean

@[expose] public section
noncomputable section
namespace Cert.ReferenceIdeal.Hand

open Idealize.ShloMosaic
open Cert.ReferenceIdeal Cert.ReferenceIdeal.Gen Cert.ReferenceIdeal.Value
open Cert.KernelIdeal.Hand (KArr QArr i3 tok kcol qcol ab kAmax qAmax scE ivE cl fold_max_iSup)

variable (kc vc : FVec Ideal S8x2048x8x128 .f32) (qc : FVec Ideal S8x2048x32x128 .f32) (sq : FVec Ideal S8x8x4 .f32) (sk sv : FVec Ideal S8x16x8 .f32)

/-- The products of the keys' codes with the queries', -/
def dArr : FVec Ideal S8x8x2048x2048x4 .f32 :=
  Host.dotGeneral dot_S8x2048x8x128_S8x2048x8x4x128_S8x8x2048x2048x4_3_4_1_13_02_02 none kc (shapeCast _ qc shapeCasts_S8x2048x32x128_S8x2048x8x4x128 : FVec Ideal S8x2048x8x4x128 .f32)
/-- the factor of a pair of scales, -/
def facArr : FVec Ideal S8x8x4x1x2048 .f32 :=
  mulf (broadcastInDim S8x8x4x1x2048 ![0, 1, 2, 3, 4] bcast_S8x8x4x1x1_S8x8x4x1x2048_0_1_2_3_4 (broadcastInDim S8x8x4x1x1 ![0, 1, 2] bcast_S8x8x4_S8x8x4x1x1_0_1_2 (Host.divf sq (broadcastInDim S8x8x4 ![] bcast_S_S8x8x4 (Host.sqrt (constant S_ .f32 0x43000000#32)))))) (broadcastInDim S8x8x4x1x2048 ![0, 1, 2, 3, 4] bcast_S8x8x1x1x2048_S8x8x4x1x2048_0_1_2_3_4 (broadcastInDim S8x8x1x1x2048 ![0, 1, 4] bcast_S8x8x2048_S8x8x1x1x2048_0_1_4 (transpose S8x8x2048 [0, 2, 1] (shapeCast _ (broadcastInDim S8x16x128x8 ![0, 1, 3] bcast_S8x16x8_S8x16x128x8_0_1_3 sk) shapeCasts_S8x16x128x8_S8x2048x8) transposes_S8x2048x8_S8x8x2048_0_2_1)))
/-- the keys no later than the query, -/
def visArr : IVec S8x8x4x2048x2048 1 :=
  broadcastInDim S8x8x4x2048x2048 ![3, 4] bcast_S2048x2048_S8x8x4x2048x2048_3_4 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
/-- the scores, -/
def scArr : FVec Ideal S8x8x4x2048x2048 .f32 :=
  select visArr (mulf (transpose S8x8x4x2048x2048 [0, 1, 4, 3, 2] (dArr kc qc) transposes_S8x8x2048x2048x4_S8x8x4x2048x2048_0_1_4_3_2) (broadcastInDim S8x8x4x2048x2048 ![0, 1, 2, 3, 4] bcast_S8x8x4x1x2048_S8x8x4x2048x2048_0_1_2_3_4 (facArr sq sk))) (broadcastInDim S8x8x4x2048x2048 ![] bcast_S_S8x8x4x2048x2048 (id (constant S_ .f32 0xFF800000#32)))

variable (S P : FVec Ideal S8x8x4x2048x2048 .f32)
/-- the weights before their sum is divided out, -/
def maxArr : FVec Ideal S8x8x4x2048 .f32 := Host.reduce FloatOps.maximumf S (constant S_ .f32 0xFF800000#32) reducesTo_S8x8x4x2048x2048_S8x8x4x2048_d4 h_S_
def pArr : FVec Ideal S8x8x4x2048x2048 .f32 :=
  Host.exp (subf S (broadcastInDim S8x8x4x2048x2048 ![0, 1, 2, 3, 4] bcast_S8x8x4x2048x1_S8x8x4x2048x2048_0_1_2_3_4 (broadcastInDim S8x8x4x2048x1 ![0, 1, 2, 3] bcast_S8x8x4x2048_S8x8x4x2048x1_0_1_2_3 (maxArr S))))
/-- the scaled values, -/
def wvArr : FVec Ideal S8x2048x8x128 .bf16 :=
  mulf (truncf .bf16 vc bitsLt_bf16_f32) (broadcastInDim S8x2048x8x128 ![0, 1, 2, 3] bcast_S8x2048x8x1_S8x2048x8x128_0_1_2_3 (broadcastInDim S8x2048x8x1 ![0, 1, 2] bcast_S8x2048x8_S8x2048x8x1_0_1_2 (truncf .bf16 (shapeCast _ (broadcastInDim S8x16x128x8 ![0, 1, 3] bcast_S8x16x8_S8x16x128x8_0_1_3 sv) shapeCasts_S8x16x128x8_S8x2048x8 : FVec Ideal S8x2048x8 .f32) bitsLt_bf16_f32)))
variable (W : FVec Ideal S8x2048x8x128 .bf16)
def sumArr : FVec Ideal S8x8x4x2048 .f32 := Host.reduceAdd P (constant S_ .f32 0x00000000#32) reducesTo_S8x8x4x2048x2048_S8x8x4x2048_d4 h_S_
def pvArr : FVec Ideal S8x8x4x2048x128 .f32 :=
  Host.dotGeneral dot_S8x8x4x2048x2048_S8x2048x8x128_S8x8x4x2048x128_4_1_23_3_01_02 none (truncf .bf16 P bitsLt_bf16_f32 : FVec Ideal S8x8x4x2048x2048 .bf16) W
variable (N : FVec Ideal S8x8x4x2048x128 .f32) (L : FVec Ideal S8x8x4x2048 .f32)
/-- and the result. -/
def oArr : FVec Ideal S8x2048x4096 .bf16 :=
  truncf .bf16 (shapeCast _ (transpose S8x2048x8x4x128 [0, 3, 1, 2, 4] (Host.divf N (broadcastInDim S8x8x4x2048x128 ![0, 1, 2, 3, 4] bcast_S8x8x4x2048x1_S8x8x4x2048x128_0_1_2_3_4 (broadcastInDim S8x8x4x2048x1 ![0, 1, 2, 3] bcast_S8x8x4x2048_S8x8x4x2048x1_0_1_2_3 L))) transposes_S8x8x4x2048x128_S8x2048x8x4x128_0_3_1_2_4) shapeCasts_S8x2048x8x4x128_S8x2048x4096 : FVec Ideal S8x2048x4096 .f32) bitsLt_bf16_f32

theorem dArr_at (b g : Fin 8) (j t : Fin 2048) (r : Fin 4) : dArr kc qc (ix5 b g j t r) = ∑ d : Fin 128, kc (ix4 b j g d) * qc (ix4 b t (hd g r) d) := by
  unfold dArr hd
  pointwise

theorem facArr_at (b g : Fin 8) (r : Fin 4) (j : Fin 2048) : facArr sq sk (ix5 b g r (0 : Fin 1) j) =
    Ideal.div (sq (ix3 b g r)) (Ideal.sqrt (Ideal.ofBits .f32 0x43000000#32)) * sk (ix3 b ⟨j.val / 128, by omega⟩ g) := by
  unfold facArr
  pointwise

theorem visArr_at (b g : Fin 8) (r : Fin 4) (t j : Fin 2048) : visArr (ix5 b g r t j) = IntOp.cmpi .sle (BitVec.ofNat 32 j.val) (BitVec.ofNat 32 t.val) := by
  unfold visArr
  pointwise

theorem scArr_at (b g : Fin 8) (r : Fin 4) (t j : Fin 2048) : scArr kc qc sq sk (ix5 b g r t j) =
    Scalar.select (visArr (ix5 b g r t j)) (dArr kc qc (ix5 b g j t r) * facArr sq sk (ix5 b g r (0 : Fin 1) j)) (Ideal.ofBits .f32 0xFF800000#32) := by
  unfold scArr
  generalize dArr kc qc = D
  generalize facArr sq sk = G
  generalize visArr = M
  pointwise [id]

theorem pArr_at (b g : Fin 8) (r : Fin 4) (t j : Fin 2048) : pArr S (ix5 b g r t j) = Ideal.exp (S (ix5 b g r t j) - maxArr S (ix4 b g r t)) := by
  unfold pArr
  generalize maxArr S = M
  pointwise

theorem wvArr_at (b : Fin 8) (j : Fin 2048) (g : Fin 8) (d : Fin 128) : wvArr vc sv (ix4 b j g d) = vc (ix4 b j g d) * sv (ix3 b ⟨j.val / 128, by omega⟩ g) := by
  unfold wvArr
  pointwise

theorem sumArr_at (b g : Fin 8) (r : Fin 4) (t : Fin 2048) : sumArr P (ix4 b g r t) = ∑ j : Fin 2048, P (ix5 b g r t j) := by
  unfold sumArr
  pointwise

theorem pvArr_at (b g : Fin 8) (r : Fin 4) (t : Fin 2048) (d : Fin 128) : pvArr P W (ix5 b g r t d) = ∑ j : Fin 2048, P (ix5 b g r t j) * W (ix4 b j g d) := by
  unfold pvArr
  pointwise

theorem oArr_at (b g : Fin 8) (r : Fin 4) (t : Fin 2048) (d : Fin 128) : oArr N L (i3 b t (qcol (hd g r) d)) = Ideal.div (N (ix5 b g r t d)) (L (ix4 b g r t)) := by
  rw [i3_eq]
  unfold oArr qcol hd
  pointwise

end Cert.ReferenceIdeal.Hand
end
-- ==== Proof.AttnMax.lean ====
/- The reference's attention as softmax-weighted means. -/
module

public import proofs.«01_k».proof.Proof.AttnRef

@[expose] public section
noncomputable section
namespace Cert.ReferenceIdeal.Hand

open Idealize.ShloMosaic
open Cert.ReferenceIdeal Cert.ReferenceIdeal.Gen Cert.ReferenceIdeal.Value
open Cert.KernelIdeal.Hand (KArr QArr i3 tok kcol qcol ab kAmax qAmax scE ivE cl fold_max_iSup)

variable (V : Valuation τ sig (Elt Ideal))

theorem v113_eq : res_main_v113 V = scArr (res_main_v57 V) (res_main_v28 V) (res_main_v87 V) (res_main_v48 V) := rfl
theorem v118_eq : res_main_v118 V = pArr (res_main_v113 V) := rfl

/-- The maximum over the keys. -/
theorem key_max (f : S8x8x4x2048x2048.Idx → EReal) (b g : Fin 8) (r : Fin 4) (t : Fin 2048) :
    (⨆ i ∈ (Finset.univ.filter fun i => reducesTo_S8x8x4x2048x2048_S8x8x4x2048_d4.drop i = ix4 b g r t), f i) = ⨆ j : Fin 2048, f (ix5 b g r t j) := by
  have hd : ∀ i, reducesTo_S8x8x4x2048x2048_S8x8x4x2048_d4.drop i = ix4 (i 0) (i 1) (i 2) (i 3) := by
    intro i
    funext a
    match a with
    | ⟨0, _⟩ => exact Fin.ext (Shape.ReducesTo.drop_apply_val_of_eq reducesTo_S8x8x4x2048x2048_S8x8x4x2048_d4 i 0 0)
    | ⟨1, _⟩ => exact Fin.ext (Shape.ReducesTo.drop_apply_val_of_eq reducesTo_S8x8x4x2048x2048_S8x8x4x2048_d4 i 1 1)
    | ⟨2, _⟩ => exact Fin.ext (Shape.ReducesTo.drop_apply_val_of_eq reducesTo_S8x8x4x2048x2048_S8x8x4x2048_d4 i 2 2)
    | ⟨3, _⟩ => exact Fin.ext (Shape.ReducesTo.drop_apply_val_of_eq reducesTo_S8x8x4x2048x2048_S8x8x4x2048_d4 i 3 3)
  refine eq_of_forall_ge_iff fun c => ?_
  simp only [iSup_le_iff, Finset.mem_filter, Finset.mem_univ, true_and]
  constructor
  · intro h j
    exact h _ (hd _)
  · intro h i hi
    obtain ⟨e0, e1, e2, e3⟩ := (ix4_inj _ _ _ _ _ _ _ _).1 ((hd i).symm.trans hi)
    have := h (i 4)
    subst e0 e1 e2 e3
    exact le_of_eq_of_le (congrArg f (eq_ix5 i)) this

theorem maxArr_at (S : FVec Ideal S8x8x4x2048x2048 .f32) (b g : Fin 8) (r : Fin 4) (t : Fin 2048) : maxArr S (ix4 b g r t) = ⨆ j : Fin 2048, S (ix5 b g r t j) := by
  unfold maxArr
  rw [Host.reduce_eq_fold FloatOps.maximumf, ← key_max S, ← fold_max_iSup]
  exact fold_maximumf _ _ _

end Cert.ReferenceIdeal.Hand
end
-- ==== Proof.AttnRefOut.lean ====
/- The reference's attention as softmax-weighted means. -/
module

public import proofs.«01_k».proof.Proof.AttnMax
public import proofs.«01_k».proof.Proof.AttnSpec

@[expose] public section
noncomputable section
namespace Cert.ReferenceIdeal.Hand

open Idealize.ShloMosaic
open Cert.ReferenceIdeal Cert.ReferenceIdeal.Gen Cert.ReferenceIdeal.Value
open Cert.KernelIdeal.Hand (KArr QArr i3 tok kcol qcol ab kAmax qAmax scE ivE cl kx kx_eq kblk clR scR aOf wOf oAt dotR dotR_eq cl_coe kScale qScale smax softmax_eq exp_real sum_kx le_bits select_ite bits_bot ieee_pow)

theorem sqrt_bits : Ideal.sqrt (Ideal.ofBits .f32 0x43000000#32) = ((Real.sqrt 128 : ℝ) : EReal) := by
  rw [ieee_pow _ 134 (by norm_num) (by norm_num) (by decide) (by decide) (by decide), Ideal.sqrt_coe, if_neg (not_lt.2 (by positivity))]
  congr 2
  norm_num

variable (V : Valuation τ sig (Elt Ideal)) (hX : ∀ i, ab (xA V i) ≤ Ideal.ofBits .f32 0x7F7F0000#32)
  (hK : ∀ i, ab (kA V i) ≤ Ideal.ofBits .f32 0x7F7F0000#32) (hV : ∀ i, ab (vA V i) ≤ Ideal.ofBits .f32 0x7F7F0000#32)
  (b g : Fin 8) (r : Fin 4) (t : Fin 2048) (d : Fin 128)

include hX hK in
theorem ref_score (x : ℕ) : scArr (res_main_v57 V) (res_main_v28 V) (res_main_v87 V) (res_main_v48 V) (ix5 b g r t (kx x)) =
    if (kx x).val ≤ t.val then ((aOf (xA V) (kA V) b g (hd g r) t x / 1 : ℝ) : EReal) else ⊥ := by
  rw [scArr_at, visArr_at, le_bits _ _ (kx x).isLt t.isLt]
  by_cases hc : (kx x).val ≤ t.val
  · rw [if_pos hc, decide_eq_true hc]
    refine (ValueIdx.select_one _ _).trans ?_
    rw [dArr_at, facArr_at, sqrt_bits, v57_arr, v28_arr, v87_arr, v48_arr, qS_at, kS_at]
    simp only [kC_at, qC_at]
    refine (congrArg₂ (· * ·) (dotR_eq (xA V) (kA V) b g (hd g r) t x) rfl).trans ?_
    rw [qScale _ hX, kScale _ hK, Ideal.div_coe (Real.sqrt_pos.2 (by norm_num)).ne', ← EReal.coe_mul, ← EReal.coe_mul, ← EReal.coe_mul, aOf]
    congr 1
    rw [div_one, mul_one_div]
    rfl
  · rw [if_neg hc, decide_eq_false hc]
    exact (ValueIdx.select_zero _ _).trans bits_bot

include hV in
theorem ref_value (x : ℕ) : wvArr (res_main_v86 V) (res_main_v77 V) (ix4 b (kx x) g d) = (wOf (vA V) b g d x : EReal) := by
  rw [wvArr_at, v86_arr, v77_arr, kS_at, kC_at, kScale _ hV, cl_coe, ← EReal.coe_mul]
  rfl

include hX hK hV in
theorem ref_out : oArr (pvArr (res_main_v118 V) (wvArr (res_main_v86 V) (res_main_v77 V))) (sumArr (res_main_v118 V)) (i3 b t (qcol (hd g r) d)) =
    oAt (xA V) (kA V) (vA V) b g (hd g r) t d := by
  rw [oArr_at, pvArr_at, sumArr_at, v118_eq, v113_eq]
  generalize hS : scArr (res_main_v57 V) (res_main_v28 V) (res_main_v87 V) (res_main_v48 V) = S
  generalize hW : wvArr (res_main_v86 V) (res_main_v77 V) = W
  simp only [pArr_at]
  have e1 := sum_kx 2048 le_rfl (fun j => Ideal.exp (S (ix5 b g r t j) - maxArr S (ix4 b g r t)) * W (ix4 b j g d))
  have e2 := sum_kx 2048 le_rfl (fun j => Ideal.exp (S (ix5 b g r t j) - maxArr S (ix4 b g r t)))
  refine (congrArg₂ Ideal.div e1 e2).trans ?_
  simp only [mul_comm (Ideal.exp _)]
  refine softmax_eq Ideal.exp 1 one_pos exp_real rfl t.val 2048 t.isLt _ _ (fun x => S (ix5 b g r t (kx x))) (fun x => W (ix4 b (kx x) g d)) (fun x hx => ?_) (fun x hx => ?_) _ fun z => ?_
  · rw [← hS]
    refine (ref_score V hX hK b g r t x).trans ?_
    rw [show (kx x).val = x from Nat.mod_eq_of_lt hx]
  · rw [← hW]
    exact ref_value V hV b g d x
  · rw [maxArr_at, iSup_le_iff]
    constructor
    · intro H x _
      exact H (kx x)
    · intro H j
      have := H j.val j.isLt
      rwa [kx_eq j.val j.isLt] at this

end Cert.ReferenceIdeal.Hand
end
-- ==== Proof.KernelRuns.lean ====
/- What the frame of the kernel over machine floats is stated over: @main up to the region, the windows' blocks, the staging buffers. Copied from the generated frame of a certificate that reads no result. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Forget
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x2048x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x16x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x16x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S4x2048x128 .fp8e4m3 := Memref.whole cc0_scratch0
abbrev scM0_1 : Memref sig .tc .vmem S2048x128 .fp8e4m3 := Memref.whole cc0_scratch1
abbrev scM0_2 : Memref sig .tc .vmem S128x2048 .bf16 := Memref.whole cc0_scratch2
abbrev scM0_3 : Memref sig .tc .vmem S2048x512 .f32 := Memref.whole cc0_scratch3
abbrev scM0_4 : Memref sig .tc .vmem S2048x512 .fp8e4m3 := Memref.whole cc0_scratch4
abbrev scM0_5 : Memref sig .tc .vmem S16x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Forget

end
-- ==== Proof.KernelRunA.lean ====
/- The kernel's body run over machine floats, the results' buffers at anything. Copied from the generated frame of a certificate that reads no result. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Forget
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 12332000 in
/-- The body's triple: on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x2048x512 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x512 .bf16) (harg5 : arg5.IsWhole) (arg6 : Memref sig .tc .vmem S1x2048x512 .fp8e4m3) (harg6 : arg6.IsWhole) (arg7 : Memref sig .tc .vmem S1x2048x128 .fp8e4m3) (harg7 : arg7.IsWhole) (arg8 : Memref sig .tc .vmem S1x2048x128 .fp8e4m3) (harg8 : arg8.IsWhole) (arg9 : Memref sig .tc .vmem S1x1x8x128 .f32) (harg9 : arg9.IsWhole) (arg10 : Memref sig .tc .vmem S1x1x16x128 .f32) (harg10 : arg10.IsWhole) (arg11 : Memref sig .tc .vmem S1x1x16x128 .f32) (harg11 : arg11.IsWhole) (arg12 : Memref sig .tc .vmem S4x2048x128 .fp8e4m3) (harg12 : arg12.IsWhole) (arg13 : Memref sig .tc .vmem S2048x128 .fp8e4m3) (harg13 : arg13.IsWhole) (arg14 : Memref sig .tc .vmem S128x2048 .bf16) (harg14 : arg14.IsWhole) (arg15 : Memref sig .tc .vmem S2048x512 .f32) (harg15 : arg15.IsWhole) (arg16 : Memref sig .tc .vmem S2048x512 .fp8e4m3) (harg16 : arg16.IsWhole) (arg17 : Memref sig .tc .vmem S16x128 .f32) (harg17 : arg17.IsWhole)
    (x0 : Vec F S1x2048x512 .bf16) (x1 : Vec F S1x2048x128 .bf16) (x2 : Vec F S1x2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_fp8_gqa_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_fp8_gqa_attention_eq_skeleton]; unfold cc0_fp8_gqa_attention_skel
    simp only [k0_part200_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part201_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part202_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part203_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Forget

end
-- ==== Proof.KernelFrame.lean ====
/- The frame of the kernel over machine floats. Copied from the generated frame of a certificate that reads no result. -/
module

public import proofs.«01_k».proof.Proof.KernelRunA
public import Idealize.ShloMosaic.Lib.Claim

@[expose] public section

-- membership in a rectangle of production extents (`View.cover_of_tiled`): the elaborator's structural look
-- recurses once per coordinate of the long axes
set_option maxRecDepth 16384

noncomputable section

namespace Cert.Kernel.Forget
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Forget

end
-- ==== Proof.Claims.lean ====
/- The claims: both programs' results are the attention, the codes and the scales of the same arguments. -/
module

public import proofs.«01_k».proof.Proof.Result
public import proofs.«01_k».proof.Proof.RefRead
public import proofs.«01_k».proof.Proof.AttnRefOut
public import proofs.«01_k».proof.Proof.Gen.ReferenceIdeal.Run
public import proofs.«01_k».proof.Proof.KernelFrame
public import proofs.«01_k».proof.Proof.Gen.On_written
public import Idealize.ShloMosaic.Lib.Quiescent

@[expose] public section
noncomputable section
namespace Cert.Proof.Claims
open Idealize.ShloMosaic Idealize.ShloMosaic.TcCoe Idealize.SL.Sem
open Cert.KernelIdeal.Hand (KcIs QcIs KsIs QsIs kcOf qcOf ksOf qsOf kcOf_is qcOf_is ksOf_is qsOf_is OIs oOf oOf_is Fin3 ab big xM kM vM KArr QArr run_vals)

/-! ## The precondition, read -/

theorem ole_iff {s : Shape} (A B : FVec Ideal s .f32) (i : s.Idx) (h : cmpf .ole A B i = 1#1) : A i ≤ B i := by
  rw [show cmpf .ole A B i = Ideal.cmp .ole (A i) (B i) from rfl, Ideal.cmp_ole] at h
  by_contra hn
  rw [decide_eq_false hn] at h
  exact absurd h (by decide)

section
variable [Cert.Pre_finite.Facts] {m : (ℓ : Loc Cert.KernelIdeal.nD Cert.KernelIdeal.τ Cert.KernelIdeal.sig) → Buf (Elt Ideal) ℓ}

theorem fin_x (X : QArr) (K V : KArr) (h : (Cert.Pre_finite.fn (F := Ideal) X K V).1 = fun _ => 1#1) (i) : ab (X i) ≤ big := ole_iff _ _ i (congrFun h i)
theorem fin_k (X : QArr) (K V : KArr) (h : (Cert.Pre_finite.fn (F := Ideal) X K V).2.1 = fun _ => 1#1) (i) : ab (K i) ≤ big := ole_iff _ _ i (congrFun h i)
theorem fin_v (X : QArr) (K V : KArr) (h : (Cert.Pre_finite.fn (F := Ideal) X K V).2.2 = fun _ => 1#1) (i) : ab (V i) ≤ big := ole_iff _ _ i (congrFun h i)

theorem fin3 (h : Cert.Pre_KernelIdeal_finite m) (c) : Fin3 m c := ⟨fin_x _ _ _ (h c).1, fin_k _ _ _ (h c).2.1, fin_v _ _ _ (h c).2.2⟩
end

/-! ## The mask, read -/

theorem mask_row [Cert.On_written.Facts] (X : QArr) (K V : KArr) (i : Cert.On_written.S8x8x8x128.Idx)
    (h : (Cert.On_written.fn (F := Ideal) X K V).2.2.2.2.1 i = 1#1) : (i 2 : ℕ) < 4 := by
  have key : ∀ r < 8, IntOp.cmpi .slt (BitVec.ofNat 32 r) 4#32 = 1#1 → r < 4 := by decide
  exact key _ (i 2).isLt h

/-! ## The reference's arrays -/

section
open Cert.ReferenceIdeal Cert.ReferenceIdeal.Gen Cert.ReferenceIdeal.Hand
open Cert.ReferenceIdeal.Value (res_main_v28 res_main_v48 res_main_v57 res_main_v77 res_main_v86 res_main_v87 res_main_v118)
variable (V : Valuation τ sig (Elt Ideal))

theorem rkc : kcArr (res_main_v57 V) = kcOf (kA V) := KcIs.ext (A := kA V) (fun b t g d => ref_kc V b t g d) (kcOf_is _)
theorem rvc : kcArr (res_main_v86 V) = kcOf (vA V) := KcIs.ext (A := vA V) (fun b t g d => ref_vc V b t g d) (kcOf_is _)
theorem rqc : qcArr (res_main_v28 V) = qcOf (xA V) := QcIs.ext (A := xA V) (fun b t h d => ref_qc V b t h d) (qcOf_is _)
theorem rks : ksArr (res_main_v48 V) = ksOf (kA V) := KsIs.ext (A := kA V) (fun b g j l => ref_ks V b g j l) (ksOf_is _)
theorem rvs : ksArr (res_main_v77 V) = ksOf (vA V) := KsIs.ext (A := vA V) (fun b g j l => ref_vs V b g j l) (ksOf_is _)
theorem rqs (i : S8x8x8x128.Idx) (hi : (i 2 : ℕ) < 4) : qsArr (res_main_v87 V) i = qsOf (xA V) i :=
  QsIs.ext (A := xA V) (fun b g r hr l => ref_qs V b g r hr l) (qsOf_is _) i hi
theorem rout (hX : ∀ i, ab (xA V i) ≤ big) (hK : ∀ i, ab (kA V i) ≤ big) (hV : ∀ i, ab (vA V i) ≤ big) :
    oArr (pvArr (res_main_v118 V) (wvArr (res_main_v86 V) (res_main_v77 V))) (sumArr (res_main_v118 V)) = oOf (xA V) (kA V) (vA V) :=
  OIs.ext (X := xA V) (K := kA V) (V := vA V) (fun b g r t d => ref_out V hX hK hV b g r t d) (oOf_is _ _ _)
end

/-! ## The claims -/

theorem frame_k : Cert.quiescent_Kernel := fun m ρ _ => Cert.Kernel.Forget.frame m ρ

theorem run_frame (m ρ) : θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.2 c).2, h.1⟩) (run_vals m ρ)

theorem frame_ki : Cert.quiescent_KernelIdeal := fun m ρ _ => run_frame m ρ
theorem frame_kf : Cert.quiescent_KernelIdeal_pre_finite := fun m ρ _ => run_frame m ρ

theorem run_ref (m ρ) : θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2.2.2.2, Idealize.ShloMosaic.sem_eq_zero_of_no_sems (by decide) r.2⟩)
    (Cert.ReferenceIdeal.Value.run (F := Ideal) m ρ)

theorem frame_ri : Cert.quiescent_ReferenceIdeal := fun m ρ _ => run_ref m ρ
theorem frame_rf : Cert.quiescent_ReferenceIdeal_pre_finite := fun m ρ _ => run_ref m ρ

theorem preserves : Cert.preserves_Kernel_KernelIdeal :=
  IdealRules.named_const.statement Cert.KernelIdeal.κ "softmax_log2" .f32 0x3E0293EE#32 (((Real.sqrt 128)⁻¹ * (Real.log 2)⁻¹ : ℝ) : EReal) rfl

theorem algebraic : Cert.algebraic_KernelIdeal_ReferenceIdeal_on_written_pre_finite := by
  intro m ρ m' ρ' hpre hagree
  refine ⟨fun c => oOf (xM m c) (kM m c) (vM m c),
    fun c => qcOf (xM m c), fun c => kcOf (kM m c), fun c => kcOf (vM m c), fun c => qsOf (xM m c), fun c => ksOf (kM m c), fun c => ksOf (vM m c), ?_, ?_⟩
  · refine (θ_run Cert.KernelIdeal.defs _ _).mono (fun r h c => ?_) (run_vals m ρ)
    obtain ⟨hv, ha⟩ := h.2 c
    obtain ⟨h0, h1, h2, h3, h4, h5, h6⟩ := hv (fin3 hpre c)
    exact ⟨fun i _ => congrFun h0 i, fun i _ => congrFun h1 i, fun i _ => congrFun h2 i, fun i _ => congrFun h3 i,
      fun i hi => h4 i (mask_row _ _ _ i hi), fun i _ => congrFun h5 i, fun i _ => congrFun h6 i, ha⟩
  · refine (θ_run Cert.ReferenceIdeal.defs _ _).mono (fun r h c => ?_) (Cert.ReferenceIdeal.Value.run (F := Ideal) m' ρ')
    obtain ⟨h0, h1, h2, h3, h4, h5, h6, ha⟩ := h c
    obtain ⟨ex, ek, ev⟩ := hagree c
    exact ⟨fun i _ => congrFun (h0.trans ((rout _ (fun i => (congrArg ab (congrFun ex i)).trans_le ((fin3 hpre c).x i)) (fun i => (congrArg ab (congrFun ek i)).trans_le ((fin3 hpre c).k i))
        (fun i => (congrArg ab (congrFun ev i)).trans_le ((fin3 hpre c).v i))).trans (congr (congr (congrArg oOf ex) ek) ev))) i,
      fun i _ => congrFun (h1.trans ((rqc _).trans (congrArg qcOf ex))) i,
      fun i _ => congrFun (h2.trans ((rkc _).trans (congrArg kcOf ek))) i,
      fun i _ => congrFun (h3.trans ((rvc _).trans (congrArg kcOf ev))) i,
      fun i hi => (congrFun h4 i).trans ((rqs _ i (mask_row _ _ _ i hi)).trans (congrFun (congrArg qsOf ex) i)),
      fun i _ => congrFun (h5.trans ((rks _).trans (congrArg ksOf ek))) i,
      fun i _ => congrFun (h6.trans ((rvs _).trans (congrArg ksOf ev))) i, ha⟩

end Cert.Proof.Claims
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.On_written
public import proofs.«01_k».proof.Proof.Claims

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite.Gen.facts, Cert.On_written.Gen.facts,
  Claims.frame_k, Claims.frame_ki, Claims.frame_kf, Claims.frame_ri, Claims.frame_rf, Claims.preserves, Claims.algebraic⟩

end Cert.Proof

end
